-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x12x512x2 : Shape := ⟨4, ![8, 12, 512, 2]⟩
abbrev S8 : Shape := ⟨1, ![8]⟩
abbrev S1x512x512 : Shape := ⟨3, ![1, 512, 512]⟩
abbrev S198x128 : Shape := ⟨2, ![198, 128]⟩
abbrev S128 : Shape := ⟨1, ![128]⟩
abbrev S198x64 : Shape := ⟨2, ![198, 64]⟩
abbrev S64 : Shape := ⟨1, ![64]⟩
abbrev S64x5 : Shape := ⟨2, ![64, 5]⟩
abbrev S5 : Shape := ⟨1, ![5]⟩
abbrev S512x512 : Shape := ⟨2, ![512, 512]⟩
abbrev S12x512x8x2 : Shape := ⟨4, ![12, 512, 8, 2]⟩
abbrev S12x512x16 : Shape := ⟨3, ![12, 512, 16]⟩
abbrev S66x3x128 : Shape := ⟨3, ![66, 3, 128]⟩
abbrev S64x3x128 : Shape := ⟨3, ![64, 3, 128]⟩
abbrev S2x3x128 : Shape := ⟨3, ![2, 3, 128]⟩
abbrev S66x3x64 : Shape := ⟨3, ![66, 3, 64]⟩
abbrev S64x3x64 : Shape := ⟨3, ![64, 3, 64]⟩
abbrev S2x3x64 : Shape := ⟨3, ![2, 3, 64]⟩
abbrev S66x1x128 : Shape := ⟨3, ![66, 1, 128]⟩
abbrev S66x128 : Shape := ⟨2, ![66, 128]⟩
abbrev S1x128 : Shape := ⟨2, ![1, 128]⟩
abbrev S66x1x64 : Shape := ⟨3, ![66, 1, 64]⟩
abbrev S66x64 : Shape := ⟨2, ![66, 64]⟩
abbrev S1x64 : Shape := ⟨2, ![1, 64]⟩
abbrev S1x5 : Shape := ⟨2, ![1, 5]⟩
abbrev S8x5 : Shape := ⟨2, ![8, 5]⟩
abbrev S1x512x16 : Shape := ⟨3, ![1, 512, 16]⟩
abbrev S512x16 : Shape := ⟨2, ![512, 16]⟩
abbrev S512x2 : Shape := ⟨2, ![512, 2]⟩
abbrev S4096x2 : Shape := ⟨2, ![4096, 2]⟩
abbrev S2x128 : Shape := ⟨2, ![2, 128]⟩
abbrev S4096x128 : Shape := ⟨2, ![4096, 128]⟩
abbrev S4096x64 : Shape := ⟨2, ![4096, 64]⟩
abbrev S2x64 : Shape := ⟨2, ![2, 64]⟩
abbrev S512x64 : Shape := ⟨2, ![512, 64]⟩
abbrev S512x528 : Shape := ⟨2, ![512, 528]⟩
abbrev S4096x66 : Shape := ⟨2, ![4096, 66]⟩
abbrev S4096x5 : Shape := ⟨2, ![4096, 5]⟩
abbrev S512x5 : Shape := ⟨2, ![512, 5]⟩

abbrev nBuf : Space → Nat
  | .hbm => 39
  | .vmem => 13
  | .smem => 0
  | _ => 0

abbrev bufTy : (tb : Table) → Fin (tcTables nBuf tb) → BufTy
  | .hbm, ⟨0, _⟩ => ⟨S8x12x512x2, .f32⟩
  | .hbm, ⟨1, _⟩ => ⟨S8, .i32⟩
  | .hbm, ⟨2, _⟩ => ⟨S1x512x512, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S512x512, .f32⟩
  | .hbm, ⟨10, _⟩ => ⟨S12x512x8x2, .f32⟩
  | .hbm, ⟨11, _⟩ => ⟨S12x512x16, .f32⟩
  | .hbm, ⟨12, _⟩ => ⟨S12x512x16, .bf16⟩
  | .hbm, ⟨13, _⟩ => ⟨S66x3x128, .f32⟩
  | .hbm, ⟨14, _⟩ => ⟨S64x3x128, .f32⟩
  | .hbm, ⟨15, _⟩ => ⟨S2x3x128, .f32⟩
  | .hbm, ⟨16, _⟩ => ⟨S66x3x128, .f32⟩
  | .hbm, ⟨17, _⟩ => ⟨S66x3x128, .bf16⟩
  | .hbm, ⟨18, _⟩ => ⟨S66x3x64, .f32⟩
  | .hbm, ⟨19, _⟩ => ⟨S64x3x64, .f32⟩
  | .hbm, ⟨20, _⟩ => ⟨S2x3x64, .f32⟩
  | .hbm, ⟨21, _⟩ => ⟨S66x3x64, .f32⟩
  | .hbm, ⟨22, _⟩ => ⟨S66x3x64, .bf16⟩
  | .hbm, ⟨23, _⟩ => ⟨S66x1x128, .bf16⟩
  | .hbm, ⟨24, _⟩ => ⟨S66x128, .bf16⟩
  | .hbm, ⟨25, _⟩ => ⟨S66x1x128, .bf16⟩
  | .hbm, ⟨26, _⟩ => ⟨S66x128, .bf16⟩
  | .hbm, ⟨27, _⟩ => ⟨S66x1x128, .bf16⟩
  | .hbm, ⟨28, _⟩ => ⟨S66x128, .bf16⟩
  | .hbm, ⟨29, _⟩ => ⟨S1x128, .f32⟩
  | .hbm, ⟨30, _⟩ => ⟨S66x1x64, .bf16⟩
  | .hbm, ⟨31, _⟩ => ⟨S66x64, .bf16⟩
  | .hbm, ⟨32, _⟩ => ⟨S66x1x64, .bf16⟩
  | .hbm, ⟨33, _⟩ => ⟨S66x64, .bf16⟩
  | .hbm, ⟨34, _⟩ => ⟨S66x1x64, .bf16⟩
  | .hbm, ⟨35, _⟩ => ⟨S66x64, .bf16⟩
  | .hbm, ⟨36, _⟩ => ⟨S1x64, .f32⟩
  | .hbm, ⟨37, _⟩ => ⟨S1x5, .f32⟩
  | .hbm, ⟨38, _⟩ => ⟨S8x5, .f32⟩
  | .local _ .vmem, ⟨0, _⟩ => ⟨S512x512, .f32⟩
  | .local _ .vmem, ⟨1, _⟩ => ⟨S12x512x16, .bf16⟩
  | .local _ .vmem, ⟨2, _⟩ => ⟨S66x128, .bf16⟩
  | .local _ .vmem, ⟨3, _⟩ => ⟨S66x128, .bf16⟩
  | .local _ .vmem, ⟨4, _⟩ => ⟨S66x128, .bf16⟩
  | .local _ .vmem, ⟨5, _⟩ => ⟨S1x128, .f32⟩
  | .local _ .vmem, ⟨6, _⟩ => ⟨S66x64, .bf16⟩
  | .local _ .vmem, ⟨7, _⟩ => ⟨S66x64, .bf16⟩
  | .local _ .vmem, ⟨8, _⟩ => ⟨S66x64, .bf16⟩
  | .local _ .vmem, ⟨9, _⟩ => ⟨S1x64, .f32⟩
  | .local _ .vmem, ⟨10, _⟩ => ⟨S64x5, .f32⟩
  | .local _ .vmem, ⟨11, _⟩ => ⟨S1x5, .f32⟩
  | .local _ .vmem, ⟨12, _⟩ => ⟨S8x5, .f32⟩
  | _, _ => ⟨S8x12x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c11_i32 : BitVec 32 := 11#32
  let v86 : BitVec 32 := Scalar.addi c1_i32 c11_i32
  let c1_i32_28 : BitVec 32 := 1#32
  ⟨c1_i32, v86, c1_i32_28⟩
def k0_off1 (k0_t1 : Fin k0_t1_loop.trips) : Fin 3 → Nat :=
  let c1_i32 : BitVec 32 := 1#32
  let c1_i32_28 : BitVec 32 := 1#32
  let arg13 : BitVec 32 := Scf.iv c1_i32 c1_i32_28 k0_t1
  let v128 : Index := Scalar.indexCast arg13
  let c0_53 : Index := 0#32
  let c0_54 : Index := 0#32
  ![v128.toNat, 0, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S66x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S66x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S66x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S66x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S66x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S66x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S8x12x512x2 : Shape := ⟨4, ![8, 12, 512, 2]⟩
abbrev S8 : Shape := ⟨1, ![8]⟩
abbrev S1x512x512 : Shape := ⟨3, ![1, 512, 512]⟩
abbrev S198x128 : Shape := ⟨2, ![198, 128]⟩
abbrev S128 : Shape := ⟨1, ![128]⟩
abbrev S198x64 : Shape := ⟨2, ![198, 64]⟩
abbrev S64 : Shape := ⟨1, ![64]⟩
abbrev S64x5 : Shape := ⟨2, ![64, 5]⟩
abbrev S5 : Shape := ⟨1, ![5]⟩
abbrev S512x512 : Shape := ⟨2, ![512, 512]⟩
abbrev S12x8x512x2 : Shape := ⟨4, ![12, 8, 512, 2]⟩
abbrev S_ : Shape := ⟨0, ![]⟩
abbrev S8x512x64 : Shape := ⟨3, ![8, 512, 64]⟩
abbrev S1x8x512x2 : Shape := ⟨4, ![1, 8, 512, 2]⟩
abbrev S8x512x2 : Shape := ⟨3, ![8, 512, 2]⟩
abbrev S8x512x66 : Shape := ⟨3, ![8, 512, 66]⟩
abbrev S512x66x8 : Shape := ⟨3, ![512, 66, 8]⟩
abbrev S512x528 : Shape := ⟨2, ![512, 528]⟩
abbrev S1x512x528 : Shape := ⟨3, ![1, 512, 528]⟩
abbrev S3x512x528 : Shape := ⟨3, ![3, 512, 528]⟩
abbrev S3x512x66x8 : Shape := ⟨4, ![3, 512, 66, 8]⟩
abbrev S8x512x66x3 : Shape := ⟨4, ![8, 512, 66, 3]⟩
abbrev S4096x198 : Shape := ⟨2, ![4096, 198]⟩
abbrev S4096x128 : Shape := ⟨2, ![4096, 128]⟩
abbrev S1x128 : Shape := ⟨2, ![1, 128]⟩
abbrev S8x512x128 : Shape := ⟨3, ![8, 512, 128]⟩
abbrev S4096x64 : Shape := ⟨2, ![4096, 64]⟩
abbrev S1x64 : Shape := ⟨2, ![1, 64]⟩
abbrev S8x512x5 : Shape := ⟨3, ![8, 512, 5]⟩
abbrev S1x1x5 : Shape := ⟨3, ![1, 1, 5]⟩
abbrev S8x5 : Shape := ⟨2, ![8, 5]⟩

abbrev nBuf : Space → Nat
  | .hbm => 131
  | .vmem => 0
  | .smem => 0
  | _ => 0

abbrev hbmTy0_0 (i : Nat) : BufTy := match i % 128 with
  | 0 => ⟨S8x12x512x2, .f32⟩
  | 1 => ⟨S8, .i32⟩
  | 2 => ⟨S1x512x512, .f32⟩
  | 3 => ⟨S198x128, .f32⟩
  | 4 => ⟨S128, .f32⟩
  | 5 => ⟨S198x64, .f32⟩
  | 6 => ⟨S64, .f32⟩
  | 7 => ⟨S64x5, .f32⟩
  | 8 => ⟨S5, .f32⟩
  | 9 => ⟨S512x512, .f32⟩
  | 10 => ⟨S12x8x512x2, .f32⟩
  | 11 => ⟨S_, .f32⟩
  | 12 => ⟨S8x512x64, .f32⟩
  | 13 => ⟨S_, .i32⟩
  | 14 => ⟨S_, .i32⟩
  | 15 => ⟨S12x8x512x2, .f32⟩
  | 16 => ⟨S512x512, .f32⟩
  | 17 => ⟨S198x128, .f32⟩
  | 18 => ⟨S128, .f32⟩
  | 19 => ⟨S198x64, .f32⟩
  | 20 => ⟨S64, .f32⟩
  | 21 => ⟨S_, .i32⟩
  | 22 => ⟨S_, .i32⟩
  | 23 => ⟨S8x512x64, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x8x512x2, .f32⟩
  | 59 => ⟨S8x512x2, .f32⟩
  | 60 => ⟨S8x512x66, .f32⟩
  | 61 => ⟨S512x66x8, .f32⟩
  | 62 => ⟨S512x528, .f32⟩
  | 63 => ⟨S512x528, .f32⟩
  | 64 => ⟨S512x528, .f32⟩
  | 65 => ⟨S_, .f32⟩
  | 66 => ⟨S512x528, .f32⟩
  | 67 => ⟨S512x528, .f32⟩
  | 68 => ⟨S512x528, .f32⟩
  | 69 => ⟨S1x512x528, .f32⟩
  | 70 => ⟨S1x512x528, .f32⟩
  | 71 => ⟨S1x512x528, .f32⟩
  | 72 => ⟨S3x512x528, .f32⟩
  | 73 => ⟨S3x512x66x8, .f32⟩
  | 74 => ⟨S8x512x66x3, .f32⟩
  | 75 => ⟨S4096x198, .f32⟩
  | 76 => ⟨S4096x128, .f32⟩
  | 77 => ⟨S1x128, .f32⟩
  | 78 => ⟨S4096x128, .f32⟩
  | 79 => ⟨S4096x128, .f32⟩
  | 80 => ⟨S4096x128, .f32⟩
  | 81 => ⟨S4096x128, .f32⟩
  | 82 => ⟨S_, .f32⟩
  | 83 => ⟨S4096x128, .f32⟩
  | 84 => ⟨S4096x128, .f32⟩
  | 85 => ⟨S_, .f32⟩
  | 86 => ⟨S4096x128, .f32⟩
  | 87 => ⟨S4096x128, .f32⟩
  | 88 => ⟨S8x512x128, .f32⟩
  | 89 => ⟨S8x512x64, .f32⟩
  | 90 => ⟨S8x512x64, .f32⟩
  | 91 => ⟨S8x512x64, .f32⟩
  | 92 => ⟨S8x512x66, .f32⟩
  | 93 => ⟨S512x66x8, .f32⟩
  | 94 => ⟨S512x528, .f32⟩
  | 95 => ⟨S512x528, .f32⟩
  | 96 => ⟨S512x528, .f32⟩
  | 97 => ⟨S_, .f32⟩
  | 98 => ⟨S512x528, .f32⟩
  | 99 => ⟨S512x528, .f32⟩
  | 100 => ⟨S512x528, .f32⟩
  | 101 => ⟨S1x512x528, .f32⟩
  | 102 => ⟨S1x512x528, .f32⟩
  | 103 => ⟨S1x512x528, .f32⟩
  | 104 => ⟨S3x512x528, .f32⟩
  | 105 => ⟨S3x512x66x8, .f32⟩
  | 106 => ⟨S8x512x66x3, .f32⟩
  | 107 => ⟨S4096x198, .f32⟩
  | 108 => ⟨S4096x64, .f32⟩
  | 109 => ⟨S1x64, .f32⟩
  | 110 => ⟨S4096x64, .f32⟩
  | 111 => ⟨S4096x64, .f32⟩
  | 112 => ⟨S8x512x64, .f32⟩
  | 113 => ⟨S8x512x64, .f32⟩
  | 114 => ⟨S8x512x64, .f32⟩
  | 115 => ⟨S_, .f32⟩
  | 116 => ⟨S8x512x64, .f32⟩
  | 117 => ⟨S8x512x64, .f32⟩
  | 118 => ⟨S8x512x64, .f32⟩
  | 119 => ⟨S8x512x64, .f32⟩
  | 120 => ⟨S_, .i32⟩
  | 121 => ⟨S_, .i32⟩
  | 122 => ⟨S_, .f32⟩
  | 123 => ⟨S8x512x64, .f32⟩
  | 124 => ⟨S8x512x64, .f32⟩
  | 125 => ⟨S8x512x5, .f32⟩
  | 126 => ⟨S1x1x5, .f32⟩
  | 127 => ⟨S8x512x5, .f32⟩
  | _ => ⟨S8x12x512x2, .f32⟩

abbrev hbmTy0_1 (i : Nat) : BufTy := match i % 128 with
  | 0 => ⟨S8x512x5, .f32⟩
  | 1 => ⟨S_, .f32⟩
  | 2 => ⟨S8x5, .f32⟩
  | _ => ⟨S8x12x512x2, .f32⟩

abbrev hbmTy (i : Nat) : BufTy := match i / 128 with
  | 0 => hbmTy0_0 i
  | 1 => hbmTy0_1 i
  | _ => ⟨S8x12x512x2, .f32⟩

abbrev bufTy : (tb : Table) → Fin (tcTables nBuf tb) → BufTy
  | .hbm, ⟨i, _⟩ => hbmTy i
  | _, _ => ⟨S8x12x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_c : Ref sig .tc := ⟨.hbm, 13, rfl⟩
abbrev main_c_0 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_while0c_c_10 : Ref sig .tc := ⟨.hbm, 24, rfl⟩
abbrev main_while0c_v10 : Ref sig .tc := ⟨.hbm, 25, rfl⟩
abbrev main_while0b_c_10 : Ref sig .tc := ⟨.hbm, 26, rfl⟩
abbrev main_while0b_v10 : Ref sig .tc := ⟨.hbm, 27, rfl⟩
abbrev main_while0b_v11 : Ref sig .tc := ⟨.hbm, 28, rfl⟩
abbrev main_while0b_c_11 : Ref sig .tc := ⟨.hbm, 29, rfl⟩
abbrev main_while0b_v12 : Ref sig .tc := ⟨.hbm, 30, rfl⟩
abbrev main_while0b_c_12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_c_13 : Ref sig .tc := ⟨.hbm, 34, rfl⟩
abbrev main_while0b_c_14 : Ref sig .tc := ⟨.hbm, 35, rfl⟩
abbrev main_while0b_v15 : Ref sig .tc := ⟨.hbm, 36, rfl⟩
abbrev main_while0b_c_15 : Ref sig .tc := ⟨.hbm, 37, rfl⟩
abbrev main_while0b_c_16 : Ref sig .tc := ⟨.hbm, 38, rfl⟩
abbrev main_while0b_v16 : Ref sig .tc := ⟨.hbm, 39, rfl⟩
abbrev main_while0b_c_17 : Ref sig .tc := ⟨.hbm, 40, rfl⟩
abbrev main_while0b_v17 : Ref sig .tc := ⟨.hbm, 41, rfl⟩
abbrev main_while0b_c_18 : Ref sig .tc := ⟨.hbm, 42, rfl⟩
abbrev main_while0b_c_19 : Ref sig .tc := ⟨.hbm, 43, rfl⟩
abbrev main_while0b_v18 : Ref sig .tc := ⟨.hbm, 44, rfl⟩
abbrev main_while0b_c_20 : Ref sig .tc := ⟨.hbm, 45, rfl⟩
abbrev main_while0b_c_21 : Ref sig .tc := ⟨.hbm, 46, rfl⟩
abbrev main_while0b_v19 : Ref sig .tc := ⟨.hbm, 47, rfl⟩
abbrev main_while0b_c_22 : Ref sig .tc := ⟨.hbm, 48, rfl⟩
abbrev main_while0b_v20 : Ref sig .tc := ⟨.hbm, 49, rfl⟩
abbrev main_while0b_c_23 : Ref sig .tc := ⟨.hbm, 50, rfl⟩
abbrev main_while0b_c_24 : Ref sig .tc := ⟨.hbm, 51, rfl⟩
abbrev main_while0b_v21 : Ref sig .tc := ⟨.hbm, 52, rfl⟩
abbrev main_while0b_c_25 : Ref sig .tc := ⟨.hbm, 53, rfl⟩
abbrev main_while0b_c_26 : Ref sig .tc := ⟨.hbm, 54, rfl⟩
abbrev main_while0b_v22 : Ref sig .tc := ⟨.hbm, 55, rfl⟩
abbrev main_while0b_c_27 : Ref sig .tc := ⟨.hbm, 56, rfl⟩
abbrev main_while0b_v23 : Ref sig .tc := ⟨.hbm, 57, rfl⟩
abbrev main_while0b_v24 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_cst_28 : Ref sig .tc := ⟨.hbm, 65, rfl⟩
abbrev main_while0b_v31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_v34 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_cst_29 : Ref sig .tc := ⟨.hbm, 82, rfl⟩
abbrev main_while0b_v47 : Ref sig .tc := ⟨.hbm, 83, rfl⟩
abbrev main_while0b_v48 : Ref sig .tc := ⟨.hbm, 84, rfl⟩
abbrev main_while0b_cst_30 : Ref sig .tc := ⟨.hbm, 85, rfl⟩
abbrev main_while0b_v49 : Ref sig .tc := ⟨.hbm, 86, rfl⟩
abbrev main_while0b_v50 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_v56 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_cst_31 : Ref sig .tc := ⟨.hbm, 97, rfl⟩
abbrev main_while0b_v60 : Ref sig .tc := ⟨.hbm, 98, rfl⟩
abbrev main_while0b_v61 : Ref sig .tc := ⟨.hbm, 99, rfl⟩
abbrev main_while0b_v62 : Ref sig .tc := ⟨.hbm, 100, rfl⟩
abbrev main_while0b_v63 : Ref sig .tc := ⟨.hbm, 101, rfl⟩
abbrev main_while0b_v64 : Ref sig .tc := ⟨.hbm, 102, rfl⟩
abbrev main_while0b_v65 : Ref sig .tc := ⟨.hbm, 103, rfl⟩
abbrev main_while0b_v66 : Ref sig .tc := ⟨.hbm, 104, rfl⟩
abbrev main_while0b_v67 : Ref sig .tc := ⟨.hbm, 105, rfl⟩
abbrev main_while0b_v68 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_cst_32 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_c_33 : Ref sig .tc := ⟨.hbm, 120, rfl⟩
abbrev main_while0b_v81 : Ref sig .tc := ⟨.hbm, 121, rfl⟩
abbrev main_call0_cst : Ref sig .tc := ⟨.hbm, 122, rfl⟩
abbrev main_call0_v0 : Ref sig .tc := ⟨.hbm, 123, rfl⟩
abbrev main_v4 : Ref sig .tc := ⟨.hbm, 124, rfl⟩
abbrev main_v5 : Ref sig .tc := ⟨.hbm, 125, rfl⟩
abbrev main_v6 : Ref sig .tc := ⟨.hbm, 126, rfl⟩
abbrev main_v7 : Ref sig .tc := ⟨.hbm, 127, rfl⟩
abbrev main_v8 : Ref sig .tc := ⟨.hbm, 128, rfl⟩
abbrev main_cst_1 : Ref sig .tc := ⟨.hbm, 129, rfl⟩
abbrev main_v9 : Ref sig .tc := ⟨.hbm, 130, rfl⟩

abbrev nD : Nat := 1
abbrev τ : Topo := Topo.v7x

variable {F : FTy → Type} [FloatOps F]

abbrev main_while0_count : Scf.Loop 32 := ⟨0#32, 12#32, 1#32⟩
-- ==== Proof.Layout.lean ====
/-
  LAYOUT: a matrix laid together from eight equal pieces, read at an index.

  The kernel keeps the hidden state in two arrangements. In the "node" arrangement the rows are the 512 nodes of the
  graph and the columns are the eight batch entries side by side; in the "row" arrangement the batch entries stand one
  below the other, 512 rows each. It goes from one to the other by cutting a matrix into eight pieces and laying the
  pieces together again along the other axis. This file states, once for any piece width, which piece such a matrix
  reads at an index.
-/
module

public import Idealize.ShloMosaic.Lib.Pointwise

@[expose] public section

noncomputable section

namespace Cert.Proof.Layout

open Idealize.ShloMosaic

/-- Pieces of one shape `s`, of extent `L` along the axis, read at the position `k * L + n` with `n < L`: the `k`-th
    piece, at position `n` along the axis and at the index's own coordinates elsewhere. -/
theorem concatenateAt_pieces {α : Type} {t s : Shape} (a : Fin t.rank) (j : t.Idx) (L : ℕ) (hf : s.FitsOff t a)
    (hL : s.size (a.cast hf.rank_eq.symm) = L) (n : ℕ) (hn : n < L) :
    ∀ (ps : List (s.Idx → α)) (k : ℕ) (hk : k < ps.length)
      (hs : ∀ s' ∈ (ps.map fun p => (⟨s, p⟩ : (s : Shape) × (s.Idx → α))).map (·.1), s'.FitsOff t a)
      (hc : k * L + n < (axisSizes t a (ps.map fun p => (⟨s, p⟩ : (s : Shape) × (s.Idx → α)))).sum),
      concatenateAt t a j (ps.map fun p => (⟨s, p⟩ : (s : Shape) × (s.Idx → α))) hs (k * L + n) hc
        = ps[k] (Shape.Idx.norm fun b => ⟨if b.val = a.val then n else (j (b.cast hf.rank_eq)).val,
            concatAt_fst_lt hf j n (hL ▸ hn) b⟩)
  | [], _, hk, _, _ => absurd hk (Nat.not_lt_zero _)
  | [p], k, hk, hs, hc => by
    obtain rfl : k = 0 := by simpa using hk
    simp only [List.map_cons, List.map_nil]
    rw [concatenateAt_singleton]
    simp only [Nat.zero_mul, Nat.zero_add, List.getElem_cons_zero]
  | p :: q :: ps, 0, hk, hs, hc => by
    simp only [List.map_cons]
    rw [concatenateAt_cons, dif_pos (by rw [hL]; omega)]
    simp only [Nat.zero_mul, Nat.zero_add, List.getElem_cons_zero]
  | p :: q :: ps, k + 1, hk, hs, hc => by
    have ih := concatenateAt_pieces a j L hf hL n hn (q :: ps) k (by simpa using hk)
      (fun s' h => hs s' (List.mem_cons_of_mem _ h))
      (by
        have e := axisSizes_cons t a ⟨s, p⟩ ((q :: ps).map fun p => (⟨s, p⟩ : (s : Shape) × (s.Idx → α))) hf
        rw [List.map_cons, e, List.sum_cons] at hc
        have e1 : (k + 1) * L = k * L + L := Nat.succ_mul k L
        simp only [hL] at hc
        omega)
    simp only [List.map_cons] at ih ⊢
    have hsub : (k + 1) * L + n - s.size (a.cast hf.rank_eq.symm) = k * L + n := by
      rw [hL, Nat.succ_mul]; omega
    rw [concatenateAt_cons, dif_neg (by rw [hL, Nat.succ_mul]; omega)]
    simp only [hsub, List.getElem_cons_succ]
    exact ih

/-- Eight blocks of 512 rows, one below the other: row `b * 512 + n` is row `n` of block `b`. -/
theorem rows8 {α : Type} {w : ℕ} (p0 p1 p2 p3 p4 p5 p6 p7 : (⟨2, ![512, w]⟩ : Shape).Idx → α)
    (h : Shape.Concatenates [⟨2, ![512, w]⟩, ⟨2, ![512, w]⟩, ⟨2, ![512, w]⟩, ⟨2, ![512, w]⟩, ⟨2, ![512, w]⟩,
      ⟨2, ![512, w]⟩, ⟨2, ![512, w]⟩, ⟨2, ![512, w]⟩] ⟨2, ![4096, w]⟩ 0)
    (b : Fin 8) (n : Fin 512) (u : Fin w) (hr : b.val * 512 + n.val < 4096) :
    concatenate ⟨2, ![4096, w]⟩ 0 [⟨⟨2, ![512, w]⟩, p0⟩, ⟨⟨2, ![512, w]⟩, p1⟩, ⟨⟨2, ![512, w]⟩, p2⟩,
      ⟨⟨2, ![512, w]⟩, p3⟩, ⟨⟨2, ![512, w]⟩, p4⟩, ⟨⟨2, ![512, w]⟩, p5⟩, ⟨⟨2, ![512, w]⟩, p6⟩, ⟨⟨2, ![512, w]⟩, p7⟩] h
      (ix2 ⟨b.val * 512 + n.val, hr⟩ u)
      = [p0, p1, p2, p3, p4, p5, p6, p7][b.val] (ix2 n u) := by
  have hf : (⟨2, ![512, w]⟩ : Shape).FitsOff ⟨2, ![4096, w]⟩ 0 := h.2.1 _ (by simp)
  rw [concatenate_apply]
  refine (concatenateAt_pieces 0 _ 512 hf rfl n.val n.isLt [p0, p1, p2, p3, p4, p5, p6, p7] b.val (by simp) _ _).trans ?_
  refine congrArg _ ?_
  rw [Shape.Idx.norm_def]
  funext x
  match x with
  | 0 => rfl
  | 1 => rfl

/-- Eight blocks of `w` columns, side by side: column `b * w + u` is column `u` of block `b`. -/
theorem cols8 {α : Type} {w W : ℕ} (p0 p1 p2 p3 p4 p5 p6 p7 : (⟨2, ![512, w]⟩ : Shape).Idx → α)
    (h : Shape.Concatenates [⟨2, ![512, w]⟩, ⟨2, ![512, w]⟩, ⟨2, ![512, w]⟩, ⟨2, ![512, w]⟩, ⟨2, ![512, w]⟩,
      ⟨2, ![512, w]⟩, ⟨2, ![512, w]⟩, ⟨2, ![512, w]⟩] ⟨2, ![512, W]⟩ 1)
    (b : Fin 8) (n : Fin 512) (u : Fin w) (hr : b.val * w + u.val < W) :
    concatenate ⟨2, ![512, W]⟩ 1 [⟨⟨2, ![512, w]⟩, p0⟩, ⟨⟨2, ![512, w]⟩, p1⟩, ⟨⟨2, ![512, w]⟩, p2⟩,
      ⟨⟨2, ![512, w]⟩, p3⟩, ⟨⟨2, ![512, w]⟩, p4⟩, ⟨⟨2, ![512, w]⟩, p5⟩, ⟨⟨2, ![512, w]⟩, p6⟩, ⟨⟨2, ![512, w]⟩, p7⟩] h
      (ix2 n ⟨b.val * w + u.val, hr⟩)
      = [p0, p1, p2, p3, p4, p5, p6, p7][b.val] (ix2 n u) := by
  have hf : (⟨2, ![512, w]⟩ : Shape).FitsOff ⟨2, ![512, W]⟩ 1 := h.2.1 _ (by simp)
  rw [concatenate_apply]
  refine (concatenateAt_pieces 1 _ w hf rfl u.val u.isLt [p0, p1, p2, p3, p4, p5, p6, p7] b.val (by simp) _ _).trans ?_
  refine congrArg _ ?_
  rw [Shape.Idx.norm_def]
  funext x
  match x with
  | 0 => rfl
  | 1 => rfl

/-- A property of all of eight pieces holds of the `b`-th. -/
theorem piece8 {β γ : Type} (p0 p1 p2 p3 p4 p5 p6 p7 : β) (f : β → γ) (g : Fin 8 → γ)
    (h0 : f p0 = g 0) (h1 : f p1 = g 1) (h2 : f p2 = g 2) (h3 : f p3 = g 3) (h4 : f p4 = g 4) (h5 : f p5 = g 5)
    (h6 : f p6 = g 6) (h7 : f p7 = g 7) (b : Fin 8) : f [p0, p1, p2, p3, p4, p5, p6, p7][b.val] = g b := by
  match b with
  | 0 => exact h0
  | 1 => exact h1
  | 2 => exact h2
  | 3 => exact h3
  | 4 => exact h4
  | 5 => exact h5
  | 6 => exact h6
  | 7 => exact h7

/-- A block of a matrix (a unit-stride rectangle of it) at an index: the matrix at the index moved by the offset. -/
theorem slice2 {α : Type} {A B a b : ℕ} (o₀ o₁ : ℕ) (X : (⟨2, ![A, B]⟩ : Shape).Idx → α)
    (h : Shape.Slices ⟨2, ![A, B]⟩ ![o₀, o₁] ⟨2, ![a, b]⟩) (i : Fin a) (j : Fin b) (hi : o₀ + i.val < A)
    (hj : o₁ + j.val < B) :
    extractStridedSlice ⟨2, ![a, b]⟩ ![o₀, o₁] X h (ix2 i j) = X (ix2 ⟨o₀ + i.val, hi⟩ ⟨o₁ + j.val, hj⟩) := by
  rw [Pointwise.extractStridedSlice_apply]
  refine congrArg X ?_
  rw [Shape.Idx.norm_def]
  funext x
  match x with
  | 0 => rfl
  | 1 => rfl

end Cert.Proof.Layout
-- ==== Proof.Arrange.lean ====
/-
  ARRANGEMENTS: how the kernel moves a state between the node arrangement (512 rows, the batch entries side by side) and
  the row arrangement (the batch entries one below the other), at its own shapes; and its products with a 66-row weight
  matrix as a sum over the 64 state features and a sum over the two input features.
-/
module

public import proofs.«01_k».proof.Proof.Gen.KernelIdeal.Skeleton
public import proofs.«01_k».proof.Proof.Layout

@[expose] public section

noncomputable section

namespace Cert.Proof.Arrange

open Idealize.ShloMosaic Cert.KernelIdeal Cert.KernelIdeal.Gen Cert.Proof.Layout

/-- Row of batch entry `b` and node `n` in the row arrangement. -/
def row (b : Fin 8) (n : Fin 512) : Fin 4096 := ⟨b.val * 512 + n.val, by omega⟩

/-- Column of batch entry `b` and state feature `u` in the node arrangement. -/
def col (b : Fin 8) (u : Fin 64) : Fin 512 := ⟨b.val * 64 + u.val, by omega⟩

/-- Every row of the row arrangement belongs to one batch entry and one node. -/
theorem row_surj (r : Fin 4096) : ∃ b n, r = row b n :=
  ⟨⟨r.val / 512, by omega⟩, ⟨r.val % 512, by omega⟩, Fin.ext (by simp only [row]; omega)⟩

/-- A block of a matrix at an index, the index in the matrix given by its coordinates' values. -/
theorem slice2_at {α : Type} {A B a b : ℕ} (o₀ o₁ : ℕ) (X : (⟨2, ![A, B]⟩ : Shape).Idx → α)
    (h : Shape.Slices ⟨2, ![A, B]⟩ ![o₀, o₁] ⟨2, ![a, b]⟩) (i : Fin a) (j : Fin b) (i' : Fin A) (j' : Fin B)
    (hi : i'.val = o₀ + i.val) (hj : j'.val = o₁ + j.val) :
    extractStridedSlice ⟨2, ![a, b]⟩ ![o₀, o₁] X h (ix2 i j) = X (ix2 i' j') := by
  obtain ⟨i', hi'⟩ := i'
  obtain ⟨j', hj'⟩ := j'
  obtain rfl : i' = o₀ + i.val := hi
  obtain rfl : j' = o₁ + j.val := hj
  exact slice2 o₀ o₁ X h i j hi' hj'

/-- Two blocks of columns side by side: a column of the first. -/
theorem join_left {α : Type} {R a c W : ℕ} (p : (⟨2, ![R, a]⟩ : Shape).Idx → α) (q : (⟨2, ![R, c]⟩ : Shape).Idx → α)
    (h : Shape.Concatenates [⟨2, ![R, a]⟩, ⟨2, ![R, c]⟩] ⟨2, ![R, W]⟩ 1) (r : Fin R) (u : Fin a) (hu : u.val < W) :
    concatenate ⟨2, ![R, W]⟩ 1 [⟨⟨2, ![R, a]⟩, p⟩, ⟨⟨2, ![R, c]⟩, q⟩] h (ix2 r ⟨u.val, hu⟩) = p (ix2 r u) := by
  have hf : (⟨2, ![R, a]⟩ : Shape).FitsOff ⟨2, ![R, W]⟩ 1 := h.2.1 _ (by simp)
  rw [concatenate_apply, concatenateAt_cons]
  refine (dif_pos (show u.val < a from u.isLt)).trans ?_
  refine congrArg p ?_
  rw [Shape.Idx.norm_def]
  funext x
  match x with
  | 0 => rfl
  | 1 => rfl

/-- Two blocks of columns side by side: a column of the second. -/
theorem join_right {α : Type} {R a c W : ℕ} (p : (⟨2, ![R, a]⟩ : Shape).Idx → α) (q : (⟨2, ![R, c]⟩ : Shape).Idx → α)
    (h : Shape.Concatenates [⟨2, ![R, a]⟩, ⟨2, ![R, c]⟩] ⟨2, ![R, W]⟩ 1) (r : Fin R) (d : Fin c) (hd : a + d.val < W) :
    concatenate ⟨2, ![R, W]⟩ 1 [⟨⟨2, ![R, a]⟩, p⟩, ⟨⟨2, ![R, c]⟩, q⟩] h (ix2 r ⟨a + d.val, hd⟩) = q (ix2 r d) := by
  have hf : (⟨2, ![R, a]⟩ : Shape).FitsOff ⟨2, ![R, W]⟩ 1 := h.2.1 _ (by simp)
  have e : a + d.val - a = d.val := by omega
  rw [concatenate_apply, concatenateAt_cons]
  refine (dif_neg (show ¬ a + d.val < a by omega)).trans ?_
  rw [concatenateAt_singleton]
  refine congrArg q ?_
  rw [Shape.Idx.norm_def]
  funext x
  match x with
  | 0 => rfl
  | 1 => exact Fin.ext e

/-- A sum over 66 features: the 64 state features, then the two input features. -/
theorem sum66 (G : Fin 66 → EReal) :
    (∑ j, G j) = (∑ u : Fin 64, G ⟨u.val, by omega⟩) + ∑ d : Fin 2, G ⟨64 + d.val, by omega⟩ :=
  Fin.sum_univ_add (a := 64) (b := 2) G

/-- The product with the gates' weights at an index. -/
theorem dotGate (A : S4096x66.Idx → EReal) (W : S66x128.Idx → EReal) (r : Fin 4096) (o : Fin 128) :
    matmul (F := Ideal) (φ₁ := .bf16) (φ₂ := .bf16) dot_S4096x66_S66x128_S4096x128_1_0_0_1_n_n none A W (constant S4096x128 .f32 0x00000000#32) (ix2 r o)
      = (∑ u : Fin 64, A (ix2 r ⟨u.val, by omega⟩) * W (ix2 ⟨u.val, by omega⟩ o))
        + ∑ d : Fin 2, A (ix2 r ⟨64 + d.val, by omega⟩) * W (ix2 ⟨64 + d.val, by omega⟩ o) := by
  rw [← sum66 fun j => A (ix2 r j) * W (ix2 j o)]
  pointwise []

/-- The product with the candidate's weights at an index. -/
theorem dotCand (A : S4096x66.Idx → EReal) (W : S66x64.Idx → EReal) (r : Fin 4096) (o : Fin 64) :
    matmul (F := Ideal) (φ₁ := .bf16) (φ₂ := .bf16) dot_S4096x66_S66x64_S4096x64_1_0_0_1_n_n none A W (constant S4096x64 .f32 0x00000000#32) (ix2 r o)
      = (∑ u : Fin 64, A (ix2 r ⟨u.val, by omega⟩) * W (ix2 ⟨u.val, by omega⟩ o))
        + ∑ d : Fin 2, A (ix2 r ⟨64 + d.val, by omega⟩) * W (ix2 ⟨64 + d.val, by omega⟩ o) := by
  rw [← sum66 fun j => A (ix2 r j) * W (ix2 j o)]
  pointwise []

/-- The state columns of the wide matrix, one batch entry below the other. -/
theorem stackState {α : Type} (X : S512x528.Idx → α) (b : Fin 8) (n : Fin 512) (u : Fin 64) :
    concatenate S4096x64 0 [⟨S512x64, extractStridedSlice S512x64 ![0, 0] X slices_S512x528_o0_0_S512x64⟩,
      ⟨S512x64, extractStridedSlice S512x64 ![0, 64] X slices_S512x528_o0_64_S512x64⟩,
      ⟨S512x64, extractStridedSlice S512x64 ![0, 128] X slices_S512x528_o0_128_S512x64⟩,
      ⟨S512x64, extractStridedSlice S512x64 ![0, 192] X slices_S512x528_o0_192_S512x64⟩,
      ⟨S512x64, extractStridedSlice S512x64 ![0, 256] X slices_S512x528_o0_256_S512x64⟩,
      ⟨S512x64, extractStridedSlice S512x64 ![0, 320] X slices_S512x528_o0_320_S512x64⟩,
      ⟨S512x64, extractStridedSlice S512x64 ![0, 384] X slices_S512x528_o0_384_S512x64⟩,
      ⟨S512x64, extractStridedSlice S512x64 ![0, 448] X slices_S512x528_o0_448_S512x64⟩]
      concatenates_S512x64_S512x64_S512x64_S512x64_S512x64_S512x64_S512x64_S512x64_S4096x64_d0 (ix2 (row b n) u)
      = X (ix2 n ⟨b.val * 64 + u.val, by omega⟩) := by
  refine (rows8 _ _ _ _ _ _ _ _ _ b n u (row b n).isLt).trans ?_
  refine piece8 _ _ _ _ _ _ _ _ (fun p : (⟨2, ![512, 64]⟩ : Shape).Idx → α => p (ix2 n u)) (fun b => X (ix2 n ⟨b.val * 64 + u.val, by omega⟩)) ?_ ?_ ?_ ?_ ?_ ?_ ?_ ?_ b
  all_goals exact slice2_at _ _ _ _ _ _ _ _ (by simp) (by simp [← Nat.add_assoc])

/-- The columns of a state in the node arrangement, one batch entry below the other. -/
theorem stackReset {α : Type} (X : S512x512.Idx → α) (b : Fin 8) (n : Fin 512) (u : Fin 64) :
    concatenate S4096x64 0 [⟨S512x64, extractStridedSlice S512x64 ![0, 0] X slices_S512x512_o0_0_S512x64⟩,
      ⟨S512x64, extractStridedSlice S512x64 ![0, 64] X slices_S512x512_o0_64_S512x64⟩,
      ⟨S512x64, extractStridedSlice S512x64 ![0, 128] X slices_S512x512_o0_128_S512x64⟩,
      ⟨S512x64, extractStridedSlice S512x64 ![0, 192] X slices_S512x512_o0_192_S512x64⟩,
      ⟨S512x64, extractStridedSlice S512x64 ![0, 256] X slices_S512x512_o0_256_S512x64⟩,
      ⟨S512x64, extractStridedSlice S512x64 ![0, 320] X slices_S512x512_o0_320_S512x64⟩,
      ⟨S512x64, extractStridedSlice S512x64 ![0, 384] X slices_S512x512_o0_384_S512x64⟩,
      ⟨S512x64, extractStridedSlice S512x64 ![0, 448] X slices_S512x512_o0_448_S512x64⟩]
      concatenates_S512x64_S512x64_S512x64_S512x64_S512x64_S512x64_S512x64_S512x64_S4096x64_d0 (ix2 (row b n) u)
      = X (ix2 n ⟨b.val * 64 + u.val, by omega⟩) := by
  refine (rows8 _ _ _ _ _ _ _ _ _ b n u (row b n).isLt).trans ?_
  refine piece8 _ _ _ _ _ _ _ _ (fun p : (⟨2, ![512, 64]⟩ : Shape).Idx → α => p (ix2 n u)) (fun b => X (ix2 n ⟨b.val * 64 + u.val, by omega⟩)) ?_ ?_ ?_ ?_ ?_ ?_ ?_ ?_ b
  all_goals exact slice2_at _ _ _ _ _ _ _ _ (by simp) (by simp [← Nat.add_assoc])

/-- The input columns of the wide matrix, one batch entry below the other. -/
theorem stackInput {α : Type} (X : S512x528.Idx → α) (b : Fin 8) (n : Fin 512) (u : Fin 2) :
    concatenate S4096x2 0 [⟨S512x2, extractStridedSlice S512x2 ![0, 512] X slices_S512x528_o0_512_S512x2⟩,
      ⟨S512x2, extractStridedSlice S512x2 ![0, 514] X slices_S512x528_o0_514_S512x2⟩,
      ⟨S512x2, extractStridedSlice S512x2 ![0, 516] X slices_S512x528_o0_516_S512x2⟩,
      ⟨S512x2, extractStridedSlice S512x2 ![0, 518] X slices_S512x528_o0_518_S512x2⟩,
      ⟨S512x2, extractStridedSlice S512x2 ![0, 520] X slices_S512x528_o0_520_S512x2⟩,
      ⟨S512x2, extractStridedSlice S512x2 ![0, 522] X slices_S512x528_o0_522_S512x2⟩,
      ⟨S512x2, extractStridedSlice S512x2 ![0, 524] X slices_S512x528_o0_524_S512x2⟩,
      ⟨S512x2, extractStridedSlice S512x2 ![0, 526] X slices_S512x528_o0_526_S512x2⟩]
      concatenates_S512x2_S512x2_S512x2_S512x2_S512x2_S512x2_S512x2_S512x2_S4096x2_d0 (ix2 (row b n) u)
      = X (ix2 n ⟨512 + (b.val * 2 + u.val), by omega⟩) := by
  refine (rows8 _ _ _ _ _ _ _ _ _ b n u (row b n).isLt).trans ?_
  refine piece8 _ _ _ _ _ _ _ _ (fun p : (⟨2, ![512, 2]⟩ : Shape).Idx → α => p (ix2 n u)) (fun b => X (ix2 n ⟨512 + (b.val * 2 + u.val), by omega⟩)) ?_ ?_ ?_ ?_ ?_ ?_ ?_ ?_ b
  all_goals exact slice2_at _ _ _ _ _ _ _ _ (by simp) (by simp [← Nat.add_assoc])

/-- The columns of the inputs, one batch entry below the other. -/
theorem stackFirst {α : Type} (X : S512x16.Idx → α) (b : Fin 8) (n : Fin 512) (u : Fin 2) :
    concatenate S4096x2 0 [⟨S512x2, extractStridedSlice S512x2 ![0, 0] X slices_S512x16_o0_0_S512x2⟩,
      ⟨S512x2, extractStridedSlice S512x2 ![0, 2] X slices_S512x16_o0_2_S512x2⟩,
      ⟨S512x2, extractStridedSlice S512x2 ![0, 4] X slices_S512x16_o0_4_S512x2⟩,
      ⟨S512x2, extractStridedSlice S512x2 ![0, 6] X slices_S512x16_o0_6_S512x2⟩,
      ⟨S512x2, extractStridedSlice S512x2 ![0, 8] X slices_S512x16_o0_8_S512x2⟩,
      ⟨S512x2, extractStridedSlice S512x2 ![0, 10] X slices_S512x16_o0_10_S512x2⟩,
      ⟨S512x2, extractStridedSlice S512x2 ![0, 12] X slices_S512x16_o0_12_S512x2⟩,
      ⟨S512x2, extractStridedSlice S512x2 ![0, 14] X slices_S512x16_o0_14_S512x2⟩]
      concatenates_S512x2_S512x2_S512x2_S512x2_S512x2_S512x2_S512x2_S512x2_S4096x2_d0 (ix2 (row b n) u)
      = X (ix2 n ⟨b.val * 2 + u.val, by omega⟩) := by
  refine (rows8 _ _ _ _ _ _ _ _ _ b n u (row b n).isLt).trans ?_
  refine piece8 _ _ _ _ _ _ _ _ (fun p : (⟨2, ![512, 2]⟩ : Shape).Idx → α => p (ix2 n u)) (fun b => X (ix2 n ⟨b.val * 2 + u.val, by omega⟩)) ?_ ?_ ?_ ?_ ?_ ?_ ?_ ?_ b
  all_goals exact slice2_at _ _ _ _ _ _ _ _ (by simp) (by simp [← Nat.add_assoc])

/-- The rows of a state in the row arrangement, one batch entry beside the other. -/
theorem beside {α : Type} (X : S4096x64.Idx → α) (b : Fin 8) (n : Fin 512) (u : Fin 64) :
    concatenate S512x512 1 [⟨S512x64, extractStridedSlice S512x64 ![0, 0] X slices_S4096x64_o0_0_S512x64⟩,
      ⟨S512x64, extractStridedSlice S512x64 ![512, 0] X slices_S4096x64_o512_0_S512x64⟩,
      ⟨S512x64, extractStridedSlice S512x64 ![1024, 0] X slices_S4096x64_o1024_0_S512x64⟩,
      ⟨S512x64, extractStridedSlice S512x64 ![1536, 0] X slices_S4096x64_o1536_0_S512x64⟩,
      ⟨S512x64, extractStridedSlice S512x64 ![2048, 0] X slices_S4096x64_o2048_0_S512x64⟩,
      ⟨S512x64, extractStridedSlice S512x64 ![2560, 0] X slices_S4096x64_o2560_0_S512x64⟩,
      ⟨S512x64, extractStridedSlice S512x64 ![3072, 0] X slices_S4096x64_o3072_0_S512x64⟩,
      ⟨S512x64, extractStridedSlice S512x64 ![3584, 0] X slices_S4096x64_o3584_0_S512x64⟩]
      concatenates_S512x64_S512x64_S512x64_S512x64_S512x64_S512x64_S512x64_S512x64_S512x512_d1 (ix2 n (col b u))
      = X (ix2 (row b n) u) := by
  refine (cols8 _ _ _ _ _ _ _ _ _ b n u (col b u).isLt).trans ?_
  refine piece8 _ _ _ _ _ _ _ _ (fun p : (⟨2, ![512, 64]⟩ : Shape).Idx → α => p (ix2 n u)) (fun b => X (ix2 (row b n) u)) ?_ ?_ ?_ ?_ ?_ ?_ ?_ ?_ b
  all_goals exact slice2_at _ _ _ _ _ _ _ _ (by simp [row]) (by simp)

end Cert.Proof.Arrange
-- ==== Proof.Model.lean ====
/-
  THE MATHEMATICS: a gated recurrent unit whose linear maps are diffusion convolutions over a graph of 512 nodes, over
  the extended reals.

  One batch entry is treated at a time: a signal is a function of the node. `hop` is the Chebyshev basis of the support
  matrix (the signal, its product with the matrix, and twice the second product less the signal), `gconv` the
  convolution of the two input features and the 64 state features with a bias, `cell` one step of the unit, `state` the
  state after `t` steps from zero, and `pooled` the classifier's score, the greatest over the nodes.

  The step from the zero state needs no product with the state at all (`cell_zero`): that is the short first step the
  kernel takes before its loop.
-/
module

public import Idealize.ShloMosaic.Lib.Pointwise

@[expose] public section

noncomputable section

namespace Cert.Proof.Model

open Idealize.ShloMosaic

/-- The constant 2, by its 32-bit pattern. -/
def two : EReal := Ideal.ofBits .f32 0x40000000#32

/-- A signal multiplied by the support matrix. -/
def app (s : Fin 512 → Fin 512 → EReal) (f : Fin 512 → EReal) (n : Fin 512) : EReal := ∑ k, s n k * f k

/-- The three Chebyshev terms of a signal: itself, its image, twice its second image less itself. -/
def hop (s : Fin 512 → Fin 512 → EReal) (m : Fin 3) (f : Fin 512 → EReal) (n : Fin 512) : EReal :=
  match m with
  | 0 => f n
  | 1 => app s f n
  | 2 => two * app s (app s f) n - f n

/-- The share of the `m`-th Chebyshev term in a convolution: over the 64 state features, then the two input features. -/
def part {O : ℕ} (s : Fin 512 → Fin 512 → EReal) (Wh : Fin 64 → Fin 3 → Fin O → EReal) (Wi : Fin 2 → Fin 3 → Fin O → EReal)
    (st : Fin 64 → Fin 512 → EReal) (xi : Fin 2 → Fin 512 → EReal) (n : Fin 512) (o : Fin O) (m : Fin 3) : EReal :=
  (∑ u, hop s m (st u) n * Wh u m o) + ∑ d, hop s m (xi d) n * Wi d m o

/-- The diffusion convolution with its bias. -/
def gconv {O : ℕ} (s : Fin 512 → Fin 512 → EReal) (bias : Fin O → EReal) (Wh : Fin 64 → Fin 3 → Fin O → EReal)
    (Wi : Fin 2 → Fin 3 → Fin O → EReal) (st : Fin 64 → Fin 512 → EReal) (xi : Fin 2 → Fin 512 → EReal) (n : Fin 512)
    (o : Fin O) : EReal :=
  bias o + part s Wh Wi st xi n o 0 + part s Wh Wi st xi n o 1 + part s Wh Wi st xi n o 2

/-- The parameters of the unit: the support matrix, and of the gates and of the candidate the bias and the weights of the
    state features and of the input features. -/
structure Params where
  s : Fin 512 → Fin 512 → EReal
  bg : Fin 128 → EReal
  gh : Fin 64 → Fin 3 → Fin 128 → EReal
  gi : Fin 2 → Fin 3 → Fin 128 → EReal
  bc : Fin 64 → EReal
  ch : Fin 64 → Fin 3 → Fin 64 → EReal
  ci : Fin 2 → Fin 3 → Fin 64 → EReal

variable (P : Params)

/-- The 128 gates: 64 reset gates, then 64 update gates. -/
def gate (xi : Fin 2 → Fin 512 → EReal) (st : Fin 64 → Fin 512 → EReal) (n : Fin 512) (o : Fin 128) : EReal :=
  Ideal.logistic (gconv P.s P.bg P.gh P.gi st xi n o)

/-- The state under the reset gates. -/
def reset (xi : Fin 2 → Fin 512 → EReal) (st : Fin 64 → Fin 512 → EReal) (u : Fin 64) (n : Fin 512) : EReal :=
  gate P xi st n ⟨u.val, by omega⟩ * st u n

/-- The candidate state. -/
def cand (xi : Fin 2 → Fin 512 → EReal) (st : Fin 64 → Fin 512 → EReal) (u : Fin 64) (n : Fin 512) : EReal :=
  Ideal.tanh (gconv P.s P.bc P.ch P.ci (reset P xi st) xi n u)

/-- The update gate. -/
def upd (xi : Fin 2 → Fin 512 → EReal) (st : Fin 64 → Fin 512 → EReal) (u : Fin 64) (n : Fin 512) : EReal :=
  gate P xi st n ⟨64 + u.val, by omega⟩

/-- One step of the unit. -/
def cell (xi : Fin 2 → Fin 512 → EReal) (st : Fin 64 → Fin 512 → EReal) (u : Fin 64) (n : Fin 512) : EReal :=
  upd P xi st u n * st u n + (1 - upd P xi st u n) * cand P xi st u n

/-- The state after `t` steps from zero, `x t` the input features at step `t`. -/
def state (x : ℕ → Fin 2 → Fin 512 → EReal) : ℕ → Fin 64 → Fin 512 → EReal
  | 0 => fun _ _ => 0
  | t + 1 => cell P (x t) (state x t)

/-- The classifier's score at a node. -/
def logit (fw : Fin 64 → Fin 5 → EReal) (fb : Fin 5 → EReal) (st : Fin 64 → Fin 512 → EReal) (n : Fin 512) (k : Fin 5) :
    EReal :=
  (∑ u, max (st u n) 0 * fw u k) + fb k

/-- The greatest score over the nodes (from the pattern of minus infinity). -/
def pooled (fw : Fin 64 → Fin 5 → EReal) (fb : Fin 5 → EReal) (st : Fin 64 → Fin 512 → EReal) (k : Fin 5) : EReal :=
  Finset.univ.fold max (Ideal.ofBits .f32 0xFF800000#32) fun n => logit fw fb st n k

/-! ### The step from the zero state -/

/-- The zero signal stays zero under every Chebyshev term. -/
theorem hop_zero (s : Fin 512 → Fin 512 → EReal) (m : Fin 3) (n : Fin 512) : hop s m (fun _ => 0) n = 0 := by
  have h : app s (fun _ => 0) = fun _ => 0 := by funext n; simp [app]
  match m with
  | 0 => rfl
  | 1 => exact congrFun h n
  | 2 => show two * app s (app s fun _ => 0) n - 0 = 0; rw [h, h]; simp

/-- The convolution of a zero state: only the input features' weights are used. -/
def gconvIn {O : ℕ} (s : Fin 512 → Fin 512 → EReal) (bias : Fin O → EReal) (Wi : Fin 2 → Fin 3 → Fin O → EReal)
    (xi : Fin 2 → Fin 512 → EReal) (n : Fin 512) (o : Fin O) : EReal :=
  bias o + (∑ d, hop s 0 (xi d) n * Wi d 0 o) + (∑ d, hop s 1 (xi d) n * Wi d 1 o) + ∑ d, hop s 2 (xi d) n * Wi d 2 o

theorem gconv_zero {O : ℕ} (s : Fin 512 → Fin 512 → EReal) (bias : Fin O → EReal) (Wh : Fin 64 → Fin 3 → Fin O → EReal)
    (Wi : Fin 2 → Fin 3 → Fin O → EReal) (xi : Fin 2 → Fin 512 → EReal) (n : Fin 512) (o : Fin O) :
    gconv s bias Wh Wi (fun _ _ => 0) xi n o = gconvIn s bias Wi xi n o := by
  simp only [gconv, gconvIn, part, hop_zero, zero_mul, Finset.sum_const_zero, zero_add]

/-- The first step, from the zero state: no product with the state, and the update gate only weighs the candidate. -/
theorem cell_zero (xi : Fin 2 → Fin 512 → EReal) (u : Fin 64) (n : Fin 512) :
    cell P xi (fun _ _ => 0) u n
      = (1 - Ideal.logistic (gconvIn P.s P.bg P.gi xi n ⟨64 + u.val, by omega⟩))
          * Ideal.tanh (gconvIn P.s P.bc P.ci xi n u) := by
  have hr : reset P xi (fun _ _ => 0) = fun _ _ => 0 := by funext u n; simp [reset]
  simp only [cell, upd, cand, gate, hr, gconv_zero, mul_zero, zero_add]

/-! ### A convolution whose features are summed in another order -/

/-- A convolution as one sum over the 198 pairs of a feature (the two input features first) and a Chebyshev term, the
    bias last. -/
theorem gconv_flat {O : ℕ} (s : Fin 512 → Fin 512 → EReal) (bias : Fin O → EReal) (Wh : Fin 64 → Fin 3 → Fin O → EReal)
    (Wi : Fin 2 → Fin 3 → Fin O → EReal) (st : Fin 64 → Fin 512 → EReal) (xi : Fin 2 → Fin 512 → EReal) (n : Fin 512)
    (o : Fin O) (T : Fin 198 → EReal)
    (hi : ∀ (d : Fin 2) (m : Fin 3), T ⟨d.val * 3 + m.val, by omega⟩ = hop s m (xi d) n * Wi d m o)
    (hh : ∀ (u : Fin 64) (m : Fin 3), T ⟨(2 + u.val) * 3 + m.val, by omega⟩ = hop s m (st u) n * Wh u m o) :
    (∑ j, T j) + bias o = gconv s bias Wh Wi st xi n o := by
  have e1 : (∑ j, T j) = ∑ d : Fin 66, ∑ m : Fin 3, T ⟨d.val * 3 + m.val, by omega⟩ := by
    rw [← Fintype.sum_prod_type' fun (d : Fin 66) (m : Fin 3) => T ⟨d.val * 3 + m.val, by omega⟩]
    refine (Fintype.sum_equiv (finProdFinEquiv (m := 66) (n := 3)) _ _ fun p => ?_).symm
    refine congrArg T (Fin.ext ?_)
    show p.1.val * 3 + p.2.val = p.2.val + 3 * p.1.val
    omega
  have e2 : ∀ G : Fin 66 → EReal, (∑ d, G d) = (∑ d : Fin 2, G ⟨d.val, by omega⟩) + ∑ u : Fin 64, G ⟨2 + u.val, by omega⟩ :=
    fun G => Fin.sum_univ_add (a := 2) (b := 64) G
  rw [e1, e2]
  have e3 : (∑ d : Fin 2, ∑ m : Fin 3, T ⟨d.val * 3 + m.val, by omega⟩) = ∑ m : Fin 3, ∑ d, hop s m (xi d) n * Wi d m o := by
    rw [Finset.sum_comm]
    exact Finset.sum_congr rfl fun m _ => Finset.sum_congr rfl fun d _ => hi d m
  have e4 : (∑ u : Fin 64, ∑ m : Fin 3, T ⟨(2 + u.val) * 3 + m.val, by omega⟩)
      = ∑ m : Fin 3, ∑ u, hop s m (st u) n * Wh u m o := by
    rw [Finset.sum_comm]
    exact Finset.sum_congr rfl fun m _ => Finset.sum_congr rfl fun u _ => hh u m
  rw [e3, e4, Fin.sum_univ_three, Fin.sum_univ_three]
  simp only [gconv, part]
  ac_rfl

end Cert.Proof.Model
-- ==== Proof.Step.lean ====
/-
  THE STEP: what one trip of the kernel's loop computes from the state it carries.

  The kernel carries the state twice, in the node arrangement and in the row arrangement. From it and the slab of inputs
  of the trip it lays the wide matrix (state columns, then input columns), takes its two Chebyshev products, and multiplies
  the 66 features of each Chebyshev term by that term's weights. This file reads each of these at an index and concludes
  that the new state is `Model.cell` of the old one, in both arrangements.
-/
module

public import proofs.«01_k».proof.Proof.Arrange
public import proofs.«01_k».proof.Proof.Model

@[expose] public section

noncomputable section

namespace Cert.Proof.Step

open Idealize.ShloMosaic Cert.KernelIdeal Cert.KernelIdeal.Gen Cert.Proof.Layout Cert.Proof.Arrange Cert.Proof.Model

/-- A matrix as a function of its two coordinates. -/
def mat (S : S512x512.Idx → EReal) (n k : Fin 512) : EReal := S (ix2 n k)

section wide
variable (S A : FVec Ideal S512x512 .bf16) (v : Vec Ideal S1x512x16 .bf16)

/-- The wide matrix at a state column. -/
theorem wide_state (b : Fin 8) (u : Fin 64) (n : Fin 512) (h : b.val * 64 + u.val < 528) :
    k0_pay4 (F := Ideal) A v (ix2 n ⟨b.val * 64 + u.val, h⟩) = A (ix2 n (col b u)) := by
  unfold k0_pay4
  exact join_left _ _ _ n (col b u) h

/-- The wide matrix at an input column. -/
theorem wide_input (b : Fin 8) (d : Fin 2) (n : Fin 512) (h : 512 + (b.val * 2 + d.val) < 528) :
    k0_pay4 (F := Ideal) A v (ix2 n ⟨512 + (b.val * 2 + d.val), h⟩) = v (ix3 0 n ⟨b.val * 2 + d.val, by omega⟩) := by
  unfold k0_pay4
  refine (join_right _ _ _ n (⟨b.val * 2 + d.val, by omega⟩ : Fin 16) h).trans ?_
  pointwise []

/-- The first product of the wide matrix, a column at a time. -/
theorem wide1 (n : Fin 512) (c : Fin 528) :
    k0_pay5 (F := Ideal) S A v (ix2 n c) = app (mat S) (fun k => k0_pay4 (F := Ideal) A v (ix2 k c)) n := by
  unfold k0_pay5 app mat
  generalize k0_pay4 (F := Ideal) A v = X
  pointwise []

/-- The second Chebyshev term of the wide matrix, a column at a time. -/
theorem wide2 (n : Fin 512) (c : Fin 528) :
    k0_pay6 (F := Ideal) S A v (ix2 n c)
      = two * app (mat S) (fun k => k0_pay5 (F := Ideal) S A v (ix2 k c)) n - k0_pay4 (F := Ideal) A v (ix2 n c) := by
  unfold k0_pay6 app mat two
  generalize k0_pay4 (F := Ideal) A v = X
  generalize k0_pay5 (F := Ideal) S A v = Y
  pointwise []

end wide

/-! ### The matrices multiplied by the weights, and the three products -/

section read
variable (v4 : FVec Ideal S1x128 .f32) (v6 : FVec Ideal S1x64 .f32)

/-- The features of the gates' third Chebyshev term: the state columns stacked (three pieces cut beforehand), then the input
    columns. -/
def gateThird (X : FVec Ideal S512x528 .bf16) (q : FVec Ideal S4096x2 .bf16) (p0 p1 p2 : FVec Ideal S512x64 .bf16) :
    FVec Ideal S4096x66 .bf16 :=
  concatenate S4096x66 1 [⟨S4096x64, concatenate S4096x64 0 [⟨S512x64, p0⟩,
      ⟨S512x64, p1⟩,
      ⟨S512x64, p2⟩,
      ⟨S512x64, extractStridedSlice S512x64 ![0, 192] X slices_S512x528_o0_192_S512x64⟩,
      ⟨S512x64, extractStridedSlice S512x64 ![0, 256] X slices_S512x528_o0_256_S512x64⟩,
      ⟨S512x64, extractStridedSlice S512x64 ![0, 320] X slices_S512x528_o0_320_S512x64⟩,
      ⟨S512x64, extractStridedSlice S512x64 ![0, 384] X slices_S512x528_o0_384_S512x64⟩,
      ⟨S512x64, extractStridedSlice S512x64 ![0, 448] X slices_S512x528_o0_448_S512x64⟩]
      concatenates_S512x64_S512x64_S512x64_S512x64_S512x64_S512x64_S512x64_S512x64_S4096x64_d0⟩, ⟨S4096x2, q⟩] concatenates_S4096x64_S4096x2_S4096x66_d1

/-- The features of the candidate's second Chebyshev term (five pieces cut beforehand), then the input columns. -/
def candSecond (X : FVec Ideal S512x512 .bf16) (q : FVec Ideal S4096x2 .bf16) (p0 p1 p2 p3 p4 : FVec Ideal S512x64 .bf16) :
    FVec Ideal S4096x66 .bf16 :=
  concatenate S4096x66 1 [⟨S4096x64, concatenate S4096x64 0 [⟨S512x64, p0⟩,
      ⟨S512x64, p1⟩,
      ⟨S512x64, p2⟩,
      ⟨S512x64, p3⟩,
      ⟨S512x64, p4⟩,
      ⟨S512x64, extractStridedSlice S512x64 ![0, 320] X slices_S512x512_o0_320_S512x64⟩,
      ⟨S512x64, extractStridedSlice S512x64 ![0, 384] X slices_S512x512_o0_384_S512x64⟩,
      ⟨S512x64, extractStridedSlice S512x64 ![0, 448] X slices_S512x512_o0_448_S512x64⟩]
      concatenates_S512x64_S512x64_S512x64_S512x64_S512x64_S512x64_S512x64_S512x64_S4096x64_d0⟩, ⟨S4096x2, q⟩] concatenates_S4096x64_S4096x2_S4096x66_d1

/-- The features of the candidate's third Chebyshev term, then the input columns. -/
def candThird (X : FVec Ideal S512x512 .bf16) (q : FVec Ideal S4096x2 .bf16) : FVec Ideal S4096x66 .bf16 :=
  concatenate S4096x66 1 [⟨S4096x64, concatenate S4096x64 0 [⟨S512x64, extractStridedSlice S512x64 ![0, 0] X slices_S512x512_o0_0_S512x64⟩,
      ⟨S512x64, extractStridedSlice S512x64 ![0, 64] X slices_S512x512_o0_64_S512x64⟩,
      ⟨S512x64, extractStridedSlice S512x64 ![0, 128] X slices_S512x512_o0_128_S512x64⟩,
      ⟨S512x64, extractStridedSlice S512x64 ![0, 192] X slices_S512x512_o0_192_S512x64⟩,
      ⟨S512x64, extractStridedSlice S512x64 ![0, 256] X slices_S512x512_o0_256_S512x64⟩,
      ⟨S512x64, extractStridedSlice S512x64 ![0, 320] X slices_S512x512_o0_320_S512x64⟩,
      ⟨S512x64, extractStridedSlice S512x64 ![0, 384] X slices_S512x512_o0_384_S512x64⟩,
      ⟨S512x64, extractStridedSlice S512x64 ![0, 448] X slices_S512x512_o0_448_S512x64⟩]
      concatenates_S512x64_S512x64_S512x64_S512x64_S512x64_S512x64_S512x64_S512x64_S4096x64_d0⟩, ⟨S4096x2, q⟩] concatenates_S4096x64_S4096x2_S4096x66_d1

/-- The product of features with the gates' weights of one Chebyshev term. -/
abbrev timesGate (A : FVec Ideal S4096x66 .bf16) (W : FVec Ideal S66x128 .bf16) : FVec Ideal S4096x128 .f32 :=
  matmul dot_S4096x66_S66x128_S4096x128_1_0_0_1_n_n none A W (constant S4096x128 .f32 0x00000000#32)

/-- The product of features with the candidate's weights of one Chebyshev term. -/
abbrev timesCand (A : FVec Ideal S4096x66 .bf16) (W : FVec Ideal S66x64 .bf16) : FVec Ideal S4096x64 .f32 :=
  matmul dot_S4096x66_S66x64_S4096x64_1_0_0_1_n_n none A W (constant S4096x64 .f32 0x00000000#32)

/-- The gates at an index: the logistic of the bias and the three products. -/
theorem gates_read (X : FVec Ideal S512x528 .bf16) (q : FVec Ideal S4096x2 .bf16) (A0 A1 : FVec Ideal S4096x66 .bf16)
    (p0 p1 p2 : FVec Ideal S512x64 .bf16) (w0 w1 w2 : FVec Ideal S66x128 .bf16) (r : Fin 4096) (o : Fin 128) :
    k0_pay15 (F := Ideal) v4 X q A0 A1 p0 p1 p2 w0 w1 w2 (ix2 r o)
      = Ideal.logistic (v4 (ix2 0 o) + timesGate A0 w0 (ix2 r o) + timesGate A1 w1 (ix2 r o)
          + timesGate (gateThird X q p0 p1 p2) w2 (ix2 r o)) := by
  unfold k0_pay15 gateThird
  simp only [shapeCast_id]
  generalize concatenate S4096x66 1 _ _ = A2
  have e : broadcastTo S4096x128 v4 broadcasts_S1x128_S4096x128 (ix2 r o) = v4 (ix2 0 o) := by pointwise []
  rw [← e]
  rfl

/-- The new state at an index, from the update gates, the old state and the candidate's three products. -/
theorem next_read (H : FVec Ideal S4096x64 .f32) (q1 q2 : FVec Ideal S4096x2 .bf16) (U : FVec Ideal S4096x64 .f32)
    (Y1 Y2 : FVec Ideal S512x512 .bf16) (A0 : FVec Ideal S4096x66 .bf16) (p0 p1 p2 p3 p4 : FVec Ideal S512x64 .bf16)
    (w0 w1 w2 : FVec Ideal S66x64 .bf16) (r : Fin 4096) (o : Fin 64) :
    k0_pay38 (F := Ideal) v6 H q1 q2 U Y1 Y2 A0 p0 p1 p2 p3 p4 w0 w1 w2 (ix2 r o)
      = U (ix2 r o) * H (ix2 r o)
        + (1 - U (ix2 r o)) * Ideal.tanh (v6 (ix2 0 o) + timesCand A0 w0 (ix2 r o)
            + timesCand (candSecond Y1 q1 p0 p1 p2 p3 p4) w1 (ix2 r o) + timesCand (candThird Y2 q2) w2 (ix2 r o)) := by
  unfold k0_pay38 candSecond candThird
  simp only [shapeCast_id]
  generalize concatenate S4096x66 1 [_, ⟨S4096x2, q1⟩] _ = A1
  generalize concatenate S4096x66 1 [_, ⟨S4096x2, q2⟩] _ = A2
  have e : broadcastTo S4096x64 v6 broadcasts_S1x64_S4096x64 (ix2 r o) = v6 (ix2 0 o) := by pointwise []
  rw [← e, ← Ideal.ofBits_one_f32]
  rfl

end read

/-! ### The parameters the kernel holds -/

/-- One of three, by the Chebyshev term. -/
def pick {α : Type} (a b c : α) (m : Fin 3) : α :=
  match m with
  | 0 => a
  | 1 => b
  | 2 => c

/-- The unit's parameters as the kernel holds them: the support matrix, the bias rows, and per Chebyshev term a matrix of
    weights whose first 64 rows belong to the state features and whose last two to the input features. -/
def params (S : S512x512.Idx → EReal) (v4 : S1x128.Idx → EReal) (w0 w1 w2 : S66x128.Idx → EReal) (v6 : S1x64.Idx → EReal)
    (c0 c1 c2 : S66x64.Idx → EReal) : Params where
  s := mat S
  bg o := v4 (ix2 0 o)
  gh u m o := pick w0 w1 w2 m (ix2 ⟨u.val, by omega⟩ o)
  gi d m o := pick w0 w1 w2 m (ix2 ⟨64 + d.val, by omega⟩ o)
  bc o := v6 (ix2 0 o)
  ch u m o := pick c0 c1 c2 m (ix2 ⟨u.val, by omega⟩ o)
  ci d m o := pick c0 c1 c2 m (ix2 ⟨64 + d.val, by omega⟩ o)

/-- A feature matrix holding the `m`-th Chebyshev term of a state and of the inputs, in the row arrangement. -/
structure Feats (s : Fin 512 → Fin 512 → EReal) (m : Fin 3) (st : Fin 8 → Fin 64 → Fin 512 → EReal)
    (xi : Fin 8 → Fin 2 → Fin 512 → EReal) (A : S4096x66.Idx → EReal) : Prop where
  state : ∀ b n (u : Fin 64), A (ix2 (row b n) ⟨u.val, by omega⟩) = hop s m (st b u) n
  input : ∀ b n (d : Fin 2), A (ix2 (row b n) ⟨64 + d.val, by omega⟩) = hop s m (xi b d) n

section feats
variable {s : Fin 512 → Fin 512 → EReal} {m : Fin 3} {st : Fin 8 → Fin 64 → Fin 512 → EReal}
  {xi : Fin 8 → Fin 2 → Fin 512 → EReal}

/-- The product of such a matrix with the gates' weights is that term's share of the convolution. -/
theorem timesGate_part {A : FVec Ideal S4096x66 .bf16} (h : Feats s m st xi A) (W : FVec Ideal S66x128 .bf16)
    (Wh : Fin 64 → Fin 3 → Fin 128 → EReal) (Wi : Fin 2 → Fin 3 → Fin 128 → EReal)
    (hh : ∀ u o, W (ix2 ⟨u.val, by omega⟩ o) = Wh u m o) (hi : ∀ d o, W (ix2 ⟨64 + d.val, by omega⟩ o) = Wi d m o)
    (b : Fin 8) (n : Fin 512) (o : Fin 128) :
    timesGate A W (ix2 (row b n) o) = part s Wh Wi (st b) (xi b) n o m := by
  refine (dotGate A W (row b n) o).trans ?_
  simp only [h.state, h.input, hh, hi, part]

/-- The product of such a matrix with the candidate's weights is that term's share of the convolution. -/
theorem timesCand_part {A : FVec Ideal S4096x66 .bf16} (h : Feats s m st xi A) (W : FVec Ideal S66x64 .bf16)
    (Wh : Fin 64 → Fin 3 → Fin 64 → EReal) (Wi : Fin 2 → Fin 3 → Fin 64 → EReal)
    (hh : ∀ u o, W (ix2 ⟨u.val, by omega⟩ o) = Wh u m o) (hi : ∀ d o, W (ix2 ⟨64 + d.val, by omega⟩ o) = Wi d m o)
    (b : Fin 8) (n : Fin 512) (o : Fin 64) :
    timesCand A W (ix2 (row b n) o) = part s Wh Wi (st b) (xi b) n o m := by
  refine (dotCand A W (row b n) o).trans ?_
  simp only [h.state, h.input, hh, hi, part]

end feats

/-! ### The features the trip lays -/

/-- The carried state in its two arrangements. -/
structure Carried (st : Fin 8 → Fin 64 → Fin 512 → EReal) (A : S512x512.Idx → EReal) (H : S4096x64.Idx → EReal) : Prop where
  node : ∀ b u n, A (ix2 n (col b u)) = st b u n
  row : ∀ b u n, H (ix2 (row b n) u) = st b u n

/-- A slab of inputs: column `2 b + d` is input feature `d` of batch entry `b`. -/
def Slab (xi : Fin 8 → Fin 2 → Fin 512 → EReal) (v : S1x512x16.Idx → EReal) : Prop :=
  ∀ (b : Fin 8) (d : Fin 2) (n : Fin 512), v (ix3 0 n ⟨b.val * 2 + d.val, by omega⟩) = xi b d n

section lay
variable {st : Fin 8 → Fin 64 → Fin 512 → EReal} {xi : Fin 8 → Fin 2 → Fin 512 → EReal}
  (S : FVec Ideal S512x512 .bf16) {A : FVec Ideal S512x512 .bf16} {H : FVec Ideal S4096x64 .f32}
  {v : Vec Ideal S1x512x16 .bf16} (hc : Carried st A H) (hv : Slab xi v)
include hc hv

omit hv in
theorem state0 (b : Fin 8) (u : Fin 64) (n : Fin 512) (h : b.val * 64 + u.val < 528) :
    k0_pay4 (F := Ideal) A v (ix2 n ⟨b.val * 64 + u.val, h⟩) = hop (mat S) 0 (st b u) n :=
  (wide_state A v b u n h).trans (hc.node b u n)

omit hc in
theorem input0 (b : Fin 8) (d : Fin 2) (n : Fin 512) (h : 512 + (b.val * 2 + d.val) < 528) :
    k0_pay4 (F := Ideal) A v (ix2 n ⟨512 + (b.val * 2 + d.val), h⟩) = hop (mat S) 0 (xi b d) n :=
  (wide_input A v b d n h).trans (hv b d n)

omit hv in
theorem state1 (b : Fin 8) (u : Fin 64) (n : Fin 512) (h : b.val * 64 + u.val < 528) :
    k0_pay5 (F := Ideal) S A v (ix2 n ⟨b.val * 64 + u.val, h⟩) = hop (mat S) 1 (st b u) n := by
  refine (wide1 S A v n _).trans ?_
  simp only [state0 S hc]
  rfl

omit hc in
theorem input1 (b : Fin 8) (d : Fin 2) (n : Fin 512) (h : 512 + (b.val * 2 + d.val) < 528) :
    k0_pay5 (F := Ideal) S A v (ix2 n ⟨512 + (b.val * 2 + d.val), h⟩) = hop (mat S) 1 (xi b d) n := by
  refine (wide1 S A v n _).trans ?_
  simp only [input0 S hv]
  rfl

omit hv in
theorem state2 (b : Fin 8) (u : Fin 64) (n : Fin 512) (h : b.val * 64 + u.val < 528) :
    k0_pay6 (F := Ideal) S A v (ix2 n ⟨b.val * 64 + u.val, h⟩) = hop (mat S) 2 (st b u) n := by
  refine (wide2 S A v n _).trans ?_
  simp only [state0 S hc, state1 S hc]
  rfl

omit hc in
theorem input2 (b : Fin 8) (d : Fin 2) (n : Fin 512) (h : 512 + (b.val * 2 + d.val) < 528) :
    k0_pay6 (F := Ideal) S A v (ix2 n ⟨512 + (b.val * 2 + d.val), h⟩) = hop (mat S) 2 (xi b d) n := by
  refine (wide2 S A v n _).trans ?_
  simp only [input0 S hv, input1 S hv]
  rfl

omit hc in
theorem stacked0 (b : Fin 8) (d : Fin 2) (n : Fin 512) :
    k0_pay7 (F := Ideal) A v (ix2 (row b n) d) = hop (mat S) 0 (xi b d) n :=
  (stackInput (k0_pay4 (F := Ideal) A v) b n d).trans (input0 S hv b d n _)

omit hc in
theorem stacked1 (b : Fin 8) (d : Fin 2) (n : Fin 512) :
    k0_pay8 (F := Ideal) S A v (ix2 (row b n) d) = hop (mat S) 1 (xi b d) n :=
  (stackInput (k0_pay5 (F := Ideal) S A v) b n d).trans (input1 S hv b d n _)

omit hc in
theorem stacked2 (b : Fin 8) (d : Fin 2) (n : Fin 512) :
    k0_pay9 (F := Ideal) S A v (ix2 (row b n) d) = hop (mat S) 2 (xi b d) n :=
  (stackInput (k0_pay6 (F := Ideal) S A v) b n d).trans (input2 S hv b d n _)

theorem feats0 : Feats (mat S) 0 st xi (k0_pay10 (F := Ideal) A H v) where
  state b n u := (join_left _ _ concatenates_S4096x64_S4096x2_S4096x66_d1 (row b n) u _).trans (hc.row b u n)
  input b n d := (join_right _ _ concatenates_S4096x64_S4096x2_S4096x66_d1 (row b n) d _).trans (stacked0 S hv b d n)

theorem feats1 : Feats (mat S) 1 st xi (k0_pay11 (F := Ideal) S A v) where
  state b n u := (join_left _ _ concatenates_S4096x64_S4096x2_S4096x66_d1 (row b n) u _).trans
    ((stackState (k0_pay5 (F := Ideal) S A v) b n u).trans (state1 S hc b u n _))
  input b n d := (join_right _ _ concatenates_S4096x64_S4096x2_S4096x66_d1 (row b n) d _).trans (stacked1 S hv b d n)

theorem feats2 : Feats (mat S) 2 st xi (gateThird (k0_pay6 (F := Ideal) S A v) (k0_pay9 (F := Ideal) S A v)
    (k0_pay12 (F := Ideal) S A v) (k0_pay13 (F := Ideal) S A v) (k0_pay14 (F := Ideal) S A v)) where
  state b n u := (join_left _ _ concatenates_S4096x64_S4096x2_S4096x66_d1 (row b n) u _).trans
    ((stackState (k0_pay6 (F := Ideal) S A v) b n u).trans (state2 S hc b u n _))
  input b n d := (join_right _ _ concatenates_S4096x64_S4096x2_S4096x66_d1 (row b n) d _).trans (stacked2 S hv b d n)

/-- The gates of the trip. -/
theorem gates_at (v4 : FVec Ideal S1x128 .f32) (w0 w1 w2 : FVec Ideal S66x128 .bf16) (v6 : FVec Ideal S1x64 .f32)
    (c0 c1 c2 : FVec Ideal S66x64 .bf16) (b : Fin 8) (n : Fin 512) (o : Fin 128) :
    k0_pay15 (F := Ideal) v4 (k0_pay6 S A v) (k0_pay9 S A v) (k0_pay10 A H v) (k0_pay11 S A v) (k0_pay12 S A v)
        (k0_pay13 S A v) (k0_pay14 S A v) w0 w1 w2 (ix2 (row b n) o)
      = gate (params S v4 w0 w1 w2 v6 c0 c1 c2) (xi b) (st b) n o := by
  rw [gates_read]
  rw [timesGate_part (feats0 S hc hv) w0 (params S v4 w0 w1 w2 v6 c0 c1 c2).gh (params S v4 w0 w1 w2 v6 c0 c1 c2).gi
      (fun _ _ => rfl) (fun _ _ => rfl),
    timesGate_part (feats1 S hc hv) w1 (params S v4 w0 w1 w2 v6 c0 c1 c2).gh (params S v4 w0 w1 w2 v6 c0 c1 c2).gi
      (fun _ _ => rfl) (fun _ _ => rfl),
    timesGate_part (feats2 S hc hv) w2 (params S v4 w0 w1 w2 v6 c0 c1 c2).gh (params S v4 w0 w1 w2 v6 c0 c1 c2).gi
      (fun _ _ => rfl) (fun _ _ => rfl)]
  rfl

end lay

/-! ### From the gates to the new state -/

section finish
variable {st : Fin 8 → Fin 64 → Fin 512 → EReal} {xi : Fin 8 → Fin 2 → Fin 512 → EReal} {P : Params}
  {S : FVec Ideal S512x512 .bf16} {v4 : FVec Ideal S1x128 .f32} {H : FVec Ideal S4096x64 .f32}
  {X : FVec Ideal S512x528 .bf16} {q : FVec Ideal S4096x2 .bf16} {A0 A1 : FVec Ideal S4096x66 .bf16}
  {p0 p1 p2 : FVec Ideal S512x64 .bf16} {w0 w1 w2 : FVec Ideal S66x128 .bf16}
  (hs : mat S = P.s) (hH : ∀ b u n, H (ix2 (row b n) u) = st b u n)
  (hG : ∀ b n o, k0_pay15 (F := Ideal) v4 X q A0 A1 p0 p1 p2 w0 w1 w2 (ix2 (row b n) o) = gate P (xi b) (st b) n o)
include hG

/-- The update gates: the last 64 gates. -/
theorem update_at (b : Fin 8) (u : Fin 64) (n : Fin 512) :
    k0_pay16 (F := Ideal) v4 X q A0 A1 p0 p1 p2 w0 w1 w2 (ix2 (row b n) u) = upd P (xi b) (st b) u n :=
  (slice2_at 0 64 _ slices_S4096x128_o0_64_S4096x64 (row b n) u (row b n) ⟨64 + u.val, by omega⟩ (by simp) rfl).trans (hG b n _)

include hH

/-- The state under the reset gates, in the row arrangement. -/
theorem reset_row (b : Fin 8) (u : Fin 64) (n : Fin 512) :
    k0_pay17 (F := Ideal) v4 H X q A0 A1 p0 p1 p2 w0 w1 w2 (ix2 (row b n) u) = reset P (xi b) (st b) u n :=
  congrArg₂ (· * ·) ((slice2_at 0 0 _ slices_S4096x128_o0_0_S4096x64 (row b n) u (row b n) ⟨u.val, by omega⟩ (by simp) (by simp)).trans (hG b n _)) (hH b u n)

/-- The state under the reset gates, in the node arrangement. -/
theorem reset_node (b : Fin 8) (u : Fin 64) (n : Fin 512) :
    k0_pay18 (F := Ideal) v4 H X q A0 A1 p0 p1 p2 w0 w1 w2 (ix2 n (col b u)) = reset P (xi b) (st b) u n :=
  (beside (k0_pay17 (F := Ideal) v4 H X q A0 A1 p0 p1 p2 w0 w1 w2) b n u).trans (reset_row hH hG b u n)

include hs

theorem reset1 (b : Fin 8) (u : Fin 64) (n : Fin 512) :
    k0_pay19 (F := Ideal) S v4 H X q A0 A1 p0 p1 p2 w0 w1 w2 (ix2 n (col b u)) = hop P.s 1 (reset P (xi b) (st b) u) n := by
  have e : k0_pay19 (F := Ideal) S v4 H X q A0 A1 p0 p1 p2 w0 w1 w2 (ix2 n (col b u))
      = app (mat S) (fun k => k0_pay18 (F := Ideal) v4 H X q A0 A1 p0 p1 p2 w0 w1 w2 (ix2 k (col b u))) n := by
    unfold k0_pay19 app mat
    generalize k0_pay18 (F := Ideal) v4 H X q A0 A1 p0 p1 p2 w0 w1 w2 = Y
    pointwise []
  rw [e, hs]
  simp only [reset_node hH hG]
  rfl

theorem reset2 (b : Fin 8) (u : Fin 64) (n : Fin 512) :
    k0_pay20 (F := Ideal) S v4 H X q A0 A1 p0 p1 p2 w0 w1 w2 (ix2 n (col b u)) = hop P.s 2 (reset P (xi b) (st b) u) n := by
  have e : k0_pay20 (F := Ideal) S v4 H X q A0 A1 p0 p1 p2 w0 w1 w2 (ix2 n (col b u))
      = two * app (mat S) (fun k => k0_pay19 (F := Ideal) S v4 H X q A0 A1 p0 p1 p2 w0 w1 w2 (ix2 k (col b u))) n
        - k0_pay18 (F := Ideal) v4 H X q A0 A1 p0 p1 p2 w0 w1 w2 (ix2 n (col b u)) := by
    unfold k0_pay20 app mat two
    generalize k0_pay18 (F := Ideal) v4 H X q A0 A1 p0 p1 p2 w0 w1 w2 = Y
    generalize k0_pay19 (F := Ideal) S v4 H X q A0 A1 p0 p1 p2 w0 w1 w2 = Z
    pointwise []
  rw [e]
  simp only [reset_node hH hG, reset1 hs hH hG]
  rw [hs]
  rfl

variable {q0 q1 q2 : FVec Ideal S4096x2 .bf16}

omit hs in
theorem candFeats0 (h0 : ∀ b d n, q0 (ix2 (row b n) d) = hop P.s 0 (xi b d) n) :
    Feats P.s 0 (fun b => reset P (xi b) (st b)) xi (k0_pay21 (F := Ideal) v4 H X q0 q A0 A1 p0 p1 p2 w0 w1 w2) where
  state b n u := (join_left _ _ concatenates_S4096x64_S4096x2_S4096x66_d1 (row b n) u _).trans (reset_row hH hG b u n)
  input b n d := (join_right _ _ concatenates_S4096x64_S4096x2_S4096x66_d1 (row b n) d _).trans (h0 b d n)

theorem candFeats1 (h1 : ∀ b d n, q1 (ix2 (row b n) d) = hop P.s 1 (xi b d) n) :
    Feats P.s 1 (fun b => reset P (xi b) (st b)) xi (candSecond (k0_pay19 (F := Ideal) S v4 H X q A0 A1 p0 p1 p2 w0 w1 w2) q1
      (k0_pay22 S v4 H X q A0 A1 p0 p1 p2 w0 w1 w2) (k0_pay23 S v4 H X q A0 A1 p0 p1 p2 w0 w1 w2) (k0_pay24 S v4 H X q A0 A1 p0 p1 p2 w0 w1 w2)
      (k0_pay25 S v4 H X q A0 A1 p0 p1 p2 w0 w1 w2) (k0_pay26 S v4 H X q A0 A1 p0 p1 p2 w0 w1 w2)) where
  state b n u := (join_left _ _ concatenates_S4096x64_S4096x2_S4096x66_d1 (row b n) u _).trans
    ((stackReset (k0_pay19 (F := Ideal) S v4 H X q A0 A1 p0 p1 p2 w0 w1 w2) b n u).trans (reset1 hs hH hG b u n))
  input b n d := (join_right _ _ concatenates_S4096x64_S4096x2_S4096x66_d1 (row b n) d _).trans (h1 b d n)

theorem candFeats2 (h2 : ∀ b d n, q2 (ix2 (row b n) d) = hop P.s 2 (xi b d) n) :
    Feats P.s 2 (fun b => reset P (xi b) (st b)) xi (candThird (k0_pay20 (F := Ideal) S v4 H X q A0 A1 p0 p1 p2 w0 w1 w2) q2) where
  state b n u := (join_left _ _ concatenates_S4096x64_S4096x2_S4096x66_d1 (row b n) u _).trans
    ((stackReset (k0_pay20 (F := Ideal) S v4 H X q A0 A1 p0 p1 p2 w0 w1 w2) b n u).trans (reset2 hs hH hG b u n))
  input b n d := (join_right _ _ concatenates_S4096x64_S4096x2_S4096x66_d1 (row b n) d _).trans (h2 b d n)

end finish

/-! ### The trip -/

section trip
variable (S : FVec Ideal S512x512 .bf16) (v4 : FVec Ideal S1x128 .f32) (v6 : FVec Ideal S1x64 .f32)
  (w0 w1 w2 : FVec Ideal S66x128 .bf16) (c0 c1 c2 : FVec Ideal S66x64 .bf16) (v : Vec Ideal S1x512x16 .bf16)
  (A : FVec Ideal S512x512 .bf16) (H : FVec Ideal S4096x64 .f32)

/-- The trip's new state in the row arrangement. -/
def nextRow : FVec Ideal S4096x64 .f32 :=
  k0_pay38 (F := Ideal) v6 H (k0_pay8 S A v) (k0_pay9 S A v)
    (k0_pay16 v4 (k0_pay6 S A v) (k0_pay9 S A v) (k0_pay10 A H v) (k0_pay11 S A v) (k0_pay12 S A v) (k0_pay13 S A v) (k0_pay14 S A v) w0 w1 w2)
    (k0_pay19 S v4 H (k0_pay6 S A v) (k0_pay9 S A v) (k0_pay10 A H v) (k0_pay11 S A v) (k0_pay12 S A v) (k0_pay13 S A v) (k0_pay14 S A v) w0 w1 w2)
    (k0_pay20 S v4 H (k0_pay6 S A v) (k0_pay9 S A v) (k0_pay10 A H v) (k0_pay11 S A v) (k0_pay12 S A v) (k0_pay13 S A v) (k0_pay14 S A v) w0 w1 w2)
    (k0_pay21 v4 H (k0_pay6 S A v) (k0_pay7 A v) (k0_pay9 S A v) (k0_pay10 A H v) (k0_pay11 S A v) (k0_pay12 S A v) (k0_pay13 S A v) (k0_pay14 S A v) w0 w1 w2)
    (k0_pay22 S v4 H (k0_pay6 S A v) (k0_pay9 S A v) (k0_pay10 A H v) (k0_pay11 S A v) (k0_pay12 S A v) (k0_pay13 S A v) (k0_pay14 S A v) w0 w1 w2)
    (k0_pay23 S v4 H (k0_pay6 S A v) (k0_pay9 S A v) (k0_pay10 A H v) (k0_pay11 S A v) (k0_pay12 S A v) (k0_pay13 S A v) (k0_pay14 S A v) w0 w1 w2)
    (k0_pay24 S v4 H (k0_pay6 S A v) (k0_pay9 S A v) (k0_pay10 A H v) (k0_pay11 S A v) (k0_pay12 S A v) (k0_pay13 S A v) (k0_pay14 S A v) w0 w1 w2)
    (k0_pay25 S v4 H (k0_pay6 S A v) (k0_pay9 S A v) (k0_pay10 A H v) (k0_pay11 S A v) (k0_pay12 S A v) (k0_pay13 S A v) (k0_pay14 S A v) w0 w1 w2)
    (k0_pay26 S v4 H (k0_pay6 S A v) (k0_pay9 S A v) (k0_pay10 A H v) (k0_pay11 S A v) (k0_pay12 S A v) (k0_pay13 S A v) (k0_pay14 S A v) w0 w1 w2)
    c0 c1 c2

/-- The trip's new state in the node arrangement. -/
def nextNode : FVec Ideal S512x512 .bf16 :=
  k0_pay39 (F := Ideal) v6 H (k0_pay8 S A v) (k0_pay9 S A v)
    (k0_pay16 v4 (k0_pay6 S A v) (k0_pay9 S A v) (k0_pay10 A H v) (k0_pay11 S A v) (k0_pay12 S A v) (k0_pay13 S A v) (k0_pay14 S A v) w0 w1 w2)
    (k0_pay19 S v4 H (k0_pay6 S A v) (k0_pay9 S A v) (k0_pay10 A H v) (k0_pay11 S A v) (k0_pay12 S A v) (k0_pay13 S A v) (k0_pay14 S A v) w0 w1 w2)
    (k0_pay20 S v4 H (k0_pay6 S A v) (k0_pay9 S A v) (k0_pay10 A H v) (k0_pay11 S A v) (k0_pay12 S A v) (k0_pay13 S A v) (k0_pay14 S A v) w0 w1 w2)
    (k0_pay21 v4 H (k0_pay6 S A v) (k0_pay7 A v) (k0_pay9 S A v) (k0_pay10 A H v) (k0_pay11 S A v) (k0_pay12 S A v) (k0_pay13 S A v) (k0_pay14 S A v) w0 w1 w2)
    (k0_pay22 S v4 H (k0_pay6 S A v) (k0_pay9 S A v) (k0_pay10 A H v) (k0_pay11 S A v) (k0_pay12 S A v) (k0_pay13 S A v) (k0_pay14 S A v) w0 w1 w2)
    (k0_pay23 S v4 H (k0_pay6 S A v) (k0_pay9 S A v) (k0_pay10 A H v) (k0_pay11 S A v) (k0_pay12 S A v) (k0_pay13 S A v) (k0_pay14 S A v) w0 w1 w2)
    (k0_pay24 S v4 H (k0_pay6 S A v) (k0_pay9 S A v) (k0_pay10 A H v) (k0_pay11 S A v) (k0_pay12 S A v) (k0_pay13 S A v) (k0_pay14 S A v) w0 w1 w2)
    (k0_pay25 S v4 H (k0_pay6 S A v) (k0_pay9 S A v) (k0_pay10 A H v) (k0_pay11 S A v) (k0_pay12 S A v) (k0_pay13 S A v) (k0_pay14 S A v) w0 w1 w2)
    (k0_pay26 S v4 H (k0_pay6 S A v) (k0_pay9 S A v) (k0_pay10 A H v) (k0_pay11 S A v) (k0_pay12 S A v) (k0_pay13 S A v) (k0_pay14 S A v) w0 w1 w2)
    c0 c1 c2

variable {st : Fin 8 → Fin 64 → Fin 512 → EReal} {xi : Fin 8 → Fin 2 → Fin 512 → EReal} {A} {H} {v}

/-- The new state is one step of the unit from the old. -/
theorem nextRow_at (hc : Carried st A H) (hv : Slab xi v) (b : Fin 8) (u : Fin 64) (n : Fin 512) :
    nextRow S v4 v6 w0 w1 w2 c0 c1 c2 v A H (ix2 (row b n) u)
      = cell (params S v4 w0 w1 w2 v6 c0 c1 c2) (xi b) (st b) u n := by
  have hG := gates_at S hc hv v4 w0 w1 w2 v6 c0 c1 c2
  have hs : mat S = (params S v4 w0 w1 w2 v6 c0 c1 c2).s := rfl
  unfold nextRow
  rw [next_read]
  rw [update_at hG, hc.row,
    timesCand_part (candFeats0 hc.row hG (stacked0 S hv)) c0 (params S v4 w0 w1 w2 v6 c0 c1 c2).ch
      (params S v4 w0 w1 w2 v6 c0 c1 c2).ci (fun _ _ => rfl) (fun _ _ => rfl),
    timesCand_part (candFeats1 hs hc.row hG (stacked1 S hv)) c1 (params S v4 w0 w1 w2 v6 c0 c1 c2).ch
      (params S v4 w0 w1 w2 v6 c0 c1 c2).ci (fun _ _ => rfl) (fun _ _ => rfl),
    timesCand_part (candFeats2 hs hc.row hG (stacked2 S hv)) c2 (params S v4 w0 w1 w2 v6 c0 c1 c2).ch
      (params S v4 w0 w1 w2 v6 c0 c1 c2).ci (fun _ _ => rfl) (fun _ _ => rfl)]
  rfl

/-- The new state, in both arrangements. -/
theorem next_carried (hc : Carried st A H) (hv : Slab xi v) :
    Carried (fun b => cell (params S v4 w0 w1 w2 v6 c0 c1 c2) (xi b) (st b))
      (nextNode S v4 v6 w0 w1 w2 c0 c1 c2 v A H) (nextRow S v4 v6 w0 w1 w2 c0 c1 c2 v A H) where
  node b u n := (beside (nextRow S v4 v6 w0 w1 w2 c0 c1 c2 v A H) b n u).trans
    (nextRow_at S v4 v6 w0 w1 w2 c0 c1 c2 hc hv b u n)
  row b u n := nextRow_at S v4 v6 w0 w1 w2 c0 c1 c2 hc hv b u n

end trip

end Cert.Proof.Step
-- ==== Proof.First.lean ====
/-
  THE FIRST STEP: what the kernel computes before its loop, where the state is still zero.

  Only the inputs of step 0 take part: their three Chebyshev terms, the two input rows of each weight matrix, the update
  gate and the candidate. The result is `Model.cell` from the zero state, in both arrangements.
-/
module

public import proofs.«01_k».proof.Proof.Step

@[expose] public section

noncomputable section

namespace Cert.Proof.First

open Idealize.ShloMosaic Cert.KernelIdeal Cert.KernelIdeal.Gen Cert.Proof.Layout Cert.Proof.Arrange Cert.Proof.Model
  Cert.Proof.Step

variable (S : Vec Ideal S512x512 .f32) (v : Vec Ideal S1x512x16 .bf16)

/-- The second Chebyshev term of the inputs in the node arrangement, before it is stacked. -/
def inputs2 : FVec Ideal S512x16 .bf16 :=
  truncf .bf16 (subf (mulf (broadcast S512x16 (Scalar.ofBits .f32 0x40000000#32))
    (matmul dot_S512x512_S512x16_S512x16_1_0_0_1_n_n none (k0_pay27 S) (k0_pay31 S v)
      (constant S512x16 .f32 0x00000000#32))) (extf .f32 (k0_pay30 v) bitsLt_bf16_f32)) bitsLt_bf16_f32

/-- The inputs at an index. -/
theorem inputs0_at (n : Fin 512) (c : Fin 16) : k0_pay30 (F := Ideal) v (ix2 n c) = v (ix3 0 n c) := by
  pointwise [k0_pay30]

/-- The inputs' first product, a column at a time. -/
theorem inputs1_at (n : Fin 512) (c : Fin 16) :
    k0_pay31 (F := Ideal) S v (ix2 n c) = app (mat S) (fun k => k0_pay30 (F := Ideal) v (ix2 k c)) n := by
  unfold k0_pay31 k0_pay27 app mat
  generalize k0_pay30 (F := Ideal) v = X
  pointwise []

/-- The inputs' second Chebyshev term, a column at a time. -/
theorem inputs2_at (n : Fin 512) (c : Fin 16) :
    inputs2 S v (ix2 n c)
      = two * app (mat S) (fun k => k0_pay31 (F := Ideal) S v (ix2 k c)) n - k0_pay30 (F := Ideal) v (ix2 n c) := by
  unfold inputs2 k0_pay27 app mat two
  generalize k0_pay30 (F := Ideal) v = X
  generalize k0_pay31 (F := Ideal) S v = Y
  pointwise []

section stacked
variable {v} {xi : Fin 8 → Fin 2 → Fin 512 → EReal} (hv : Slab xi v) (b : Fin 8) (d : Fin 2) (n : Fin 512)
include hv

/-- The inputs, stacked. -/
theorem first0 : k0_pay32 (F := Ideal) v (ix2 (row b n) d) = hop (mat S) 0 (xi b d) n :=
  (stackFirst (k0_pay30 (F := Ideal) v) b n d).trans ((inputs0_at v n _).trans (hv b d n))

/-- The inputs' first product, stacked. -/
theorem first1 : k0_pay33 (F := Ideal) S v (ix2 (row b n) d) = hop (mat S) 1 (xi b d) n := by
  refine (stackFirst (k0_pay31 (F := Ideal) S v) b n d).trans ((inputs1_at S v n _).trans ?_)
  simp only [inputs0_at, hv b d _]
  rfl

/-- The inputs' second Chebyshev term, stacked. -/
theorem first2 : k0_pay34 (F := Ideal) S v (ix2 (row b n) d) = hop (mat S) 2 (xi b d) n := by
  refine (stackFirst (inputs2 S v) b n d).trans ((inputs2_at S v n _).trans ?_)
  simp only [inputs1_at, inputs0_at, hv b d _]
  rfl

end stacked

/-- The first state at an index, over the stacked inputs. -/
theorem first_read (v4 : FVec Ideal S1x128 .f32) (v6 : FVec Ideal S1x64 .f32) (q0 q1 q2 : FVec Ideal S4096x2 .bf16)
    (g0 g1 g2 : FVec Ideal S2x128 .bf16) (c0 c1 c2 : FVec Ideal S2x64 .bf16) (r : Fin 4096) (u : Fin 64) :
    k0_pay36 (F := Ideal) v4 v6 q0 q1 q2 g0 g1 g2 c0 c1 c2 (ix2 r u)
      = (1 - Ideal.logistic (v4 (ix2 0 ⟨64 + u.val, by omega⟩)
            + (∑ d : Fin 2, q0 (ix2 r d) * g0 (ix2 d ⟨64 + u.val, by omega⟩))
            + (∑ d : Fin 2, q1 (ix2 r d) * g1 (ix2 d ⟨64 + u.val, by omega⟩))
            + ∑ d : Fin 2, q2 (ix2 r d) * g2 (ix2 d ⟨64 + u.val, by omega⟩)))
          * Ideal.tanh (v6 (ix2 0 u) + (∑ d : Fin 2, q0 (ix2 r d) * c0 (ix2 d u)) + (∑ d : Fin 2, q1 (ix2 r d) * c1 (ix2 d u))
              + ∑ d : Fin 2, q2 (ix2 r d) * c2 (ix2 d u)) := by
  pointwise [k0_pay36]

variable (P : Params) {v} {xi : Fin 8 → Fin 2 → Fin 512 → EReal} (v4 : FVec Ideal S1x128 .f32) (v6 : FVec Ideal S1x64 .f32)
  (g0 g1 g2 : FVec Ideal S2x128 .bf16) (c0 c1 c2 : FVec Ideal S2x64 .bf16)

/-- The state after the first step, in the row arrangement. -/
theorem first_row (hv : Slab xi v) (hs : mat S = P.s) (hb : ∀ o, v4 (ix2 0 o) = P.bg o) (hc : ∀ o, v6 (ix2 0 o) = P.bc o)
    (hg : ∀ m d o, pick g0 g1 g2 m (ix2 d o) = P.gi d m o) (hw : ∀ m d o, pick c0 c1 c2 m (ix2 d o) = P.ci d m o)
    (b : Fin 8) (u : Fin 64) (n : Fin 512) :
    k0_pay36 (F := Ideal) v4 v6 (k0_pay32 v) (k0_pay33 S v) (k0_pay34 S v) (k0_pay35 g0) g1 g2 c0 c1 c2 (ix2 (row b n) u)
      = cell P (xi b) (fun _ _ => 0) u n := by
  have e : k0_pay35 (F := Ideal) g0 = g0 := shapeCast_id _ _
  have hg0 : ∀ d o, g0 (ix2 d o) = P.gi d 0 o := hg 0
  have hg1 : ∀ d o, g1 (ix2 d o) = P.gi d 1 o := hg 1
  have hg2 : ∀ d o, g2 (ix2 d o) = P.gi d 2 o := hg 2
  have hw0 : ∀ d o, c0 (ix2 d o) = P.ci d 0 o := hw 0
  have hw1 : ∀ d o, c1 (ix2 d o) = P.ci d 1 o := hw 1
  have hw2 : ∀ d o, c2 (ix2 d o) = P.ci d 2 o := hw 2
  rw [first_read, cell_zero, e]
  simp only [first0 S hv, first1 S hv, first2 S hv, hb, hc, hg0, hg1, hg2, hw0, hw1, hw2, hs]
  rfl

/-- The state after the first step, in both arrangements. -/
theorem first_carried (hv : Slab xi v) (hs : mat S = P.s) (hb : ∀ o, v4 (ix2 0 o) = P.bg o)
    (hc : ∀ o, v6 (ix2 0 o) = P.bc o) (hg : ∀ m d o, pick g0 g1 g2 m (ix2 d o) = P.gi d m o)
    (hw : ∀ m d o, pick c0 c1 c2 m (ix2 d o) = P.ci d m o) :
    Carried (fun b => cell P (xi b) fun _ _ => 0)
      (k0_pay37 (F := Ideal) v4 v6 (k0_pay32 v) (k0_pay33 S v) (k0_pay34 S v) (k0_pay35 g0) g1 g2 c0 c1 c2)
      (k0_pay36 (F := Ideal) v4 v6 (k0_pay32 v) (k0_pay33 S v) (k0_pay34 S v) (k0_pay35 g0) g1 g2 c0 c1 c2) where
  node b u n := (beside (k0_pay36 (F := Ideal) v4 v6 (k0_pay32 v) (k0_pay33 S v) (k0_pay34 S v) (k0_pay35 g0) g1 g2 c0 c1 c2)
    b n u).trans (first_row S P v4 v6 g0 g1 g2 c0 c1 c2 hv hs hb hc hg hw b u n)
  row b u n := first_row S P v4 v6 g0 g1 g2 c0 c1 c2 hv hs hb hc hg hw b u n

end Cert.Proof.First
-- ==== Proof.Scores.lean ====
/-
  THE SCORES: what the kernel writes of the last state. Row `b` of the result is the greatest classifier score over the
  nodes of batch entry `b`: `Model.pooled`.
-/
module

public import proofs.«01_k».proof.Proof.Step

@[expose] public section

noncomputable section

namespace Cert.Proof.Scores

open Idealize.ShloMosaic Cert.KernelIdeal Cert.KernelIdeal.Gen Cert.Proof.Layout Cert.Proof.Arrange Cert.Proof.Model
  Cert.Proof.Step

variable {st : Fin 8 → Fin 64 → Fin 512 → EReal} {H : FVec Ideal S4096x64 .f32} (W : Vec Ideal S64x5 .f32)
  (B : Vec Ideal S1x5 .f32) (hH : ∀ b u n, H (ix2 (row b n) u) = st b u n)

/-- The weights of the classifier, and its bias, as the kernel holds them. -/
def fw (u : Fin 64) (k : Fin 5) : EReal := W (ix2 u k)
def fb (k : Fin 5) : EReal := B (ix2 0 k)

include hH in
/-- The score of a node. -/
theorem score_at (b : Fin 8) (n : Fin 512) (k : Fin 5) :
    k0_pay40 (F := Ideal) H W B (ix2 (row b n) k) = logit (fw W) (fb B) (st b) n k := by
  have e : k0_pay40 (F := Ideal) H W B (ix2 (row b n) k)
      = (∑ u : Fin 64, max (H (ix2 (row b n) u)) 0 * W (ix2 u k)) + B (ix2 0 k) := by
    generalize row b n = r
    pointwise [k0_pay40]
  rw [e]
  simp only [hH]
  rfl

/-- The greatest over 512 consecutive rows of a matrix of scores, from row `o`. -/
theorem rowsMax (o : ℕ) (L : FVec Ideal S4096x5 .f32) (hs : Shape.Slices S4096x5 ![o, 0] S512x5) (g : Fin 512 → Fin 4096)
    (hg : ∀ n, (g n).val = o + n.val) (k : Fin 5) :
    shapeCast S1x5 (multiReduction .maximumf [0] S5 (extractStridedSlice S512x5 ![o, 0] L hs) 0xFF800000#32
        reduces_S512x5_S5 (.inl rfl) rfl : FVec Ideal S5 .f32) shapeCasts_S5_S1x5 (ix2 0 k)
      = Finset.univ.fold max (Ideal.ofBits .f32 0xFF800000#32) fun n => L (ix2 (g n) k) := by
  have e : ∀ (n : Fin 512) (k : Fin 5), extractStridedSlice S512x5 ![o, 0] L hs (ix2 n k) = L (ix2 (g n) k) := fun n k =>
    slice2_at o 0 L hs n k (g n) k (hg n) (by simp)
  generalize extractStridedSlice S512x5 ![o, 0] L hs = X at e
  pointwise [e]

include hH in
/-- The greatest score of batch entry `b`, from its 512 rows of scores. -/
theorem pooled_at (o : ℕ) (hs : Shape.Slices S4096x5 ![o, 0] S512x5) (b : Fin 8) (ho : b.val * 512 = o) (k : Fin 5) :
    shapeCast S1x5 (multiReduction .maximumf [0] S5 (extractStridedSlice S512x5 ![o, 0] (k0_pay40 (F := Ideal) H W B) hs)
        0xFF800000#32 reduces_S512x5_S5 (.inl rfl) rfl : FVec Ideal S5 .f32) shapeCasts_S5_S1x5 (ix2 0 k)
      = pooled (fw W) (fb B) (st b) k := by
  refine (rowsMax o _ hs (row b) (fun n => by simp only [row]; omega) k).trans ?_
  simp only [score_at W B hH]
  rfl

/-- What the kernel stores in row `b` of its result. -/
def stored (H : FVec Ideal S4096x64 .f32) (b : Fin 8) : FVec Ideal S1x5 .f32 :=
  match b with
  | 0 => k0_pay41 H W B
  | 1 => k0_pay42 H W B
  | 2 => k0_pay43 H W B
  | 3 => k0_pay44 H W B
  | 4 => k0_pay45 H W B
  | 5 => k0_pay1 (k0_pay46 H W B)
  | 6 => k0_pay2 (k0_pay40 H W B)
  | 7 => k0_pay3 (k0_pay40 H W B)

include hH in
/-- Each stored row is the greatest score of its batch entry. -/
theorem stored_at (b : Fin 8) (k : Fin 5) : stored W B H b (ix2 0 k) = pooled (fw W) (fb B) (st b) k := by
  match b with
  | 0 => exact pooled_at W B hH 0 slices_S4096x5_o0_0_S512x5 0 rfl k
  | 1 => exact pooled_at W B hH 512 slices_S4096x5_o512_0_S512x5 1 rfl k
  | 2 => exact pooled_at W B hH 1024 slices_S4096x5_o1024_0_S512x5 2 rfl k
  | 3 => exact pooled_at W B hH 1536 slices_S4096x5_o1536_0_S512x5 3 rfl k
  | 4 => exact pooled_at W B hH 2048 slices_S4096x5_o2048_0_S512x5 4 rfl k
  | 5 => exact pooled_at W B hH 2560 slices_S4096x5_o2560_0_S512x5 5 rfl k
  | 6 => exact pooled_at W B hH 3072 slices_S4096x5_o3072_0_S512x5 6 rfl k
  | 7 => exact pooled_at W B hH 3584 slices_S4096x5_o3584_0_S512x5 7 rfl k

end Cert.Proof.Scores
-- ==== Proof.Loop.lean ====
/-
  THE LOOP: the state the kernel carries through its eleven trips, and what it leaves in its result.

  The kernel's run has found what one trip yields (`trip_eq` names it: `Step.nextNode` and `Step.nextRow` of the carried
  pair) and what it stores (`out_eq`: row `b` is `Scores.stored` of the state after the last trip). With the first step
  (`First.first_carried`) an induction over the trips gives the carried state after `k` trips: the model's state after
  `k + 1` steps. So the result's row `b` is `Model.pooled` of the state after twelve steps.
-/
module

public import proofs.«01_k».proof.Proof.Gen.KernelIdeal.Frame
public import proofs.«01_k».proof.Proof.First
public import proofs.«01_k».proof.Proof.Scores

@[expose] public section

noncomputable section

namespace Cert.Proof.Loop

open Idealize.ShloMosaic Cert.KernelIdeal Cert.KernelIdeal.Gen Cert.Proof.Layout Cert.Proof.Arrange Cert.Proof.Model
  Cert.Proof.Step

/-! ### Loads of whole arrays and of parts of arrays -/

section loads
variable {S : Shape} {e : EltTy} {a : Memref sig .tc .vmem S e} (h : a.IsWhole) (x : Vec Ideal S e)

/-- A load of the whole of an array that holds `x` reads `x`. -/
theorem load_whole {off : Fin S.rank → ℕ} (ho : off = fun _ => 0) (inb : ∀ i, off i + S.size i ≤ S.size i) :
    View.readAt (Elt Ideal) a.view (Rect.unit off S.size inb).toLoadRect (h.unread x) = x := by
  refine (View.readAt_eq_ld a.view (h.unread x) (Rect.unit off S.size inb)).trans ?_
  rw [h.read_unread]
  exact View.ld_unit_zero ho inb x

/-- A load of part of an array that holds `x` reads that part. -/
theorem load_part {off size : Fin S.rank → ℕ} (inb : ∀ i, off i + size i ≤ S.size i) :
    View.readAt (Elt Ideal) a.view (Rect.unit off size inb).toLoadRect (h.unread x)
      = extractStridedSlice ⟨_, size⟩ off x ⟨rfl, inb⟩ := by
  refine (View.readAt_eq_ld a.view (h.unread x) (Rect.unit off size inb)).trans ?_
  rw [h.read_unread]
  exact View.ld_unit x off size inb

end loads

theorem zero2 : (![0, 0] : Fin 2 → ℕ) = fun _ => 0 := by decide

/-! ### One trip -/

/-- The loop makes eleven trips. -/
theorem trips_eq : k0_t1_loop.trips = 11 := by decide +kernel

/-- The slab of inputs that trip `k` loads. -/
def slab (x1 : Vec Ideal S12x512x16 .bf16) (k : Fin k0_t1_loop.trips) : Vec Ideal S1x512x16 .bf16 :=
  extractStridedSlice S1x512x16 (k0_off1 k) x1 ⟨rfl, k0_off1_inb k⟩

/-- The slab of inputs the first step loads. -/
def slab0 (x1 : Vec Ideal S12x512x16 .bf16) : Vec Ideal S1x512x16 .bf16 :=
  extractStridedSlice S1x512x16 ![0, 0, 0] x1 ⟨rfl, inb_S12x512x16_S1x512x16_0_0_0⟩

/-- The inputs of step `t`, per batch entry (zero past the last step). -/
def xin (x1 : Vec Ideal S12x512x16 .bf16) (b : Fin 8) (t : ℕ) (d : Fin 2) (n : Fin 512) : EReal :=
  if h : t < 12 then x1 (ix3 ⟨t, h⟩ n ⟨b.val * 2 + d.val, by omega⟩) else 0

/-- Trip `k` loads the inputs of step `k + 1`. -/
theorem slab_is (x1 : Vec Ideal S12x512x16 .bf16) (k : Fin k0_t1_loop.trips) :
    Slab (fun b => xin x1 b (k.val + 1)) (slab x1 k) := by
  intro b d n
  have hk : k.val < 11 := Nat.lt_of_lt_of_le k.isLt trips_eq.le
  unfold slab xin
  dsimp only
  rw [dif_pos (by omega)]
  have ho := k0_off1_eq k
  refine Idealize.ShloMosaic.extractStridedSlice_apply _ _ _ _ _ fun a => ?_
  match a with
  | 0 => show k.val + 1 = k0_off1 k 0 + 0; rw [ho]; rfl
  | 1 => show n.val = k0_off1 k 1 + n.val; rw [ho]; exact (Nat.zero_add _).symm
  | 2 => show b.val * 2 + d.val = k0_off1 k 2 + (b.val * 2 + d.val); rw [ho]; exact (Nat.zero_add _).symm

/-- The first step loads the inputs of step 0. -/
theorem slab0_is (x1 : Vec Ideal S12x512x16 .bf16) : Slab (fun b => xin x1 b 0) (slab0 x1) := by
  intro b d n
  unfold slab0 xin
  dsimp only
  rw [dif_pos (by omega)]
  refine Idealize.ShloMosaic.extractStridedSlice_apply _ _ _ _ _ fun a => ?_
  match a with
  | 0 => rfl
  | 1 => exact (Nat.zero_add _).symm
  | 2 => exact (Nat.zero_add _).symm

section trip
variable (c : Dev nD) (a0 : Memref sig .tc .vmem S512x512 .f32) (h0 : a0.IsWhole)
  (a1 : Memref sig .tc .vmem S12x512x16 .bf16) (h1 : a1.IsWhole)
  (a2 : Memref sig .tc .vmem S66x128 .bf16) (h2 : a2.IsWhole)
  (a3 : Memref sig .tc .vmem S66x128 .bf16) (h3 : a3.IsWhole)
  (a4 : Memref sig .tc .vmem S66x128 .bf16) (h4 : a4.IsWhole)
  (a5 : Memref sig .tc .vmem S1x128 .f32) (h5 : a5.IsWhole)
  (a6 : Memref sig .tc .vmem S66x64 .bf16) (h6 : a6.IsWhole)
  (a7 : Memref sig .tc .vmem S66x64 .bf16) (h7 : a7.IsWhole)
  (a8 : Memref sig .tc .vmem S66x64 .bf16) (h8 : a8.IsWhole)
  (a9 : Memref sig .tc .vmem S1x64 .f32) (h9 : a9.IsWhole)
  (a10 : Memref sig .tc .vmem S64x5 .f32) (h10 : a10.IsWhole)
  (a11 : Memref sig .tc .vmem S1x5 .f32) (h11 : a11.IsWhole)
  (a12 : Memref sig .tc .vmem S8x5 .f32) (h12 : a12.IsWhole)
  (v2 : FVec Ideal S512x512 .bf16) (v4 : FVec Ideal S1x128 .f32) (v6 : FVec Ideal S1x64 .f32)
  (v75 : FVec Ideal S4096x64 .f32) (v85 : FVec Ideal S512x512 .bf16) (i : BitVec 32)
  (x0 : Vec Ideal S512x512 .f32) (x1 : Vec Ideal S12x512x16 .bf16) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) (x10 : Vec Ideal S64x5 .f32) (x11 : Vec Ideal S1x5 .f32)

/-- What one trip yields, over what its loads read. -/
theorem trip_loads (𝒱 : Variants) (bd : Option 𝒱.V) X1 X2 X3 X4 X6 X7 X8 k acc :
    tripR_k0_t1 (F := Ideal) 𝒱 c bd a0 h0 a1 h1 a2 h2 a3 h3 a4 h4 a5 h5 a6 h6 a7 h7 a8 h8 a9 h9 a10 h10 a11 h11 a12 h12 v2 v4 v6 v75 v85 i X1 X2 X3 X4 X6 X7 X8 k acc
      = (nextNode v2 v4 v6
          (View.readAt (Elt Ideal) a2.view (Rect.unit ![0, 0] S66x128.size inb_S66x128_S66x128_0_0).toLoadRect X2)
          (View.readAt (Elt Ideal) a3.view (Rect.unit ![0, 0] S66x128.size inb_S66x128_S66x128_0_0).toLoadRect X3)
          (View.readAt (Elt Ideal) a4.view (Rect.unit ![0, 0] S66x128.size inb_S66x128_S66x128_0_0).toLoadRect X4)
          (View.readAt (Elt Ideal) a6.view (Rect.unit ![0, 0] S66x64.size inb_S66x64_S66x64_0_0).toLoadRect X6)
          (View.readAt (Elt Ideal) a7.view (Rect.unit ![0, 0] S66x64.size inb_S66x64_S66x64_0_0).toLoadRect X7)
          (View.readAt (Elt Ideal) a8.view (Rect.unit ![0, 0] S66x64.size inb_S66x64_S66x64_0_0).toLoadRect X8)
          (View.readAt (Elt Ideal) a1.view (Rect.unit (s := S12x512x16) (k0_off1 k) S1x512x16.size (k0_off1_inb k)).toLoadRect X1) acc.1 acc.2,
        nextRow v2 v4 v6
          (View.readAt (Elt Ideal) a2.view (Rect.unit ![0, 0] S66x128.size inb_S66x128_S66x128_0_0).toLoadRect X2)
          (View.readAt (Elt Ideal) a3.view (Rect.unit ![0, 0] S66x128.size inb_S66x128_S66x128_0_0).toLoadRect X3)
          (View.readAt (Elt Ideal) a4.view (Rect.unit ![0, 0] S66x128.size inb_S66x128_S66x128_0_0).toLoadRect X4)
          (View.readAt (Elt Ideal) a6.view (Rect.unit ![0, 0] S66x64.size inb_S66x64_S66x64_0_0).toLoadRect X6)
          (View.readAt (Elt Ideal) a7.view (Rect.unit ![0, 0] S66x64.size inb_S66x64_S66x64_0_0).toLoadRect X7)
          (View.readAt (Elt Ideal) a8.view (Rect.unit ![0, 0] S66x64.size inb_S66x64_S66x64_0_0).toLoadRect X8)
          (View.readAt (Elt Ideal) a1.view (Rect.unit (s := S12x512x16) (k0_off1 k) S1x512x16.size (k0_off1_inb k)).toLoadRect X1) acc.1 acc.2) := by
  unfold tripR_k0_t1 trip_k0_t1
  dsimp only
  sl_unfold_words
  rfl

/-- What one trip yields when the arrays hold `x`: the next state of the carried pair. -/
theorem trip_eq (𝒱 : Variants) (bd : Option 𝒱.V) k acc :
    tripR_k0_t1 (F := Ideal) 𝒱 c bd a0 h0 a1 h1 a2 h2 a3 h3 a4 h4 a5 h5 a6 h6 a7 h7 a8 h8 a9 h9 a10 h10 a11 h11 a12 h12 v2 v4 v6 v75 v85 i (h1.unread x1) (h2.unread x2) (h3.unread x3) (h4.unread x4) (h6.unread x6) (h7.unread x7) (h8.unread x8) k acc
      = (nextNode v2 v4 v6 x2 x3 x4 x6 x7 x8 (slab x1 k) acc.1 acc.2,
         nextRow v2 v4 v6 x2 x3 x4 x6 x7 x8 (slab x1 k) acc.1 acc.2) := by
  have e2 := load_whole h2 x2 zero2 inb_S66x128_S66x128_0_0
  have e3 := load_whole h3 x3 zero2 inb_S66x128_S66x128_0_0
  have e4 := load_whole h4 x4 zero2 inb_S66x128_S66x128_0_0
  have e6 := load_whole h6 x6 zero2 inb_S66x64_S66x64_0_0
  have e7 := load_whole h7 x7 zero2 inb_S66x64_S66x64_0_0
  have e8 := load_whole h8 x8 zero2 inb_S66x64_S66x64_0_0
  have e1 : View.readAt (Elt Ideal) a1.view (Rect.unit (s := S12x512x16) (k0_off1 k) S1x512x16.size (k0_off1_inb k)).toLoadRect (h1.unread x1)
      = slab x1 k := load_part h1 x1 (k0_off1_inb k)
  rw [trip_loads, e1, e2, e3, e4, e6, e7, e8]

/-- The carried pair after `k` trips: the model's state after `k + 1` steps, in both arrangements. -/
theorem loop_carried (𝒱 : Variants) (bd : Option 𝒱.V) (init : FVec Ideal S512x512 .bf16 × FVec Ideal S4096x64 .f32)
    (h0c : Carried (fun b => state (params v2 v4 x2 x3 x4 v6 x6 x7 x8) (xin x1 b) 1) init.1 init.2) :
    ∀ k, k ≤ 11 → Carried (fun b => state (params v2 v4 x2 x3 x4 v6 x6 x7 x8) (xin x1 b) (k + 1))
      (st_k0_t1 (F := Ideal) 𝒱 c bd a0 h0 a1 h1 a2 h2 a3 h3 a4 h4 a5 h5 a6 h6 a7 h7 a8 h8 a9 h9 a10 h10 a11 h11 a12 h12 v2 v4 v6 v75 v85 i (h1.unread x1) (h2.unread x2) (h3.unread x3) (h4.unread x4) (h6.unread x6) (h7.unread x7) (h8.unread x8) init k).1
      (st_k0_t1 (F := Ideal) 𝒱 c bd a0 h0 a1 h1 a2 h2 a3 h3 a4 h4 a5 h5 a6 h6 a7 h7 a8 h8 a9 h9 a10 h10 a11 h11 a12 h12 v2 v4 v6 v75 v85 i (h1.unread x1) (h2.unread x2) (h3.unread x3) (h4.unread x4) (h6.unread x6) (h7.unread x7) (h8.unread x8) init k).2
  | 0, _ => h0c
  | k + 1, hk => by
    have ih := loop_carried 𝒱 bd init h0c k (by omega)
    have hk' : k < k0_t1_loop.trips := Nat.lt_of_lt_of_le hk trips_eq.ge
    have e := st_k0_t1_succ (F := Ideal) 𝒱 c bd a0 h0 a1 h1 a2 h2 a3 h3 a4 h4 a5 h5 a6 h6 a7 h7 a8 h8 a9 h9 a10 h10 a11 h11 a12 h12 v2 v4 v6 v75 v85 i (h1.unread x1) (h2.unread x2) (h3.unread x3) (h4.unread x4) (h6.unread x6) (h7.unread x7) (h8.unread x8) init ⟨k, hk'⟩
    rw [trip_eq] at e
    rw [e]
    exact next_carried v2 v4 v6 x2 x3 x4 x6 x7 x8 ih (slab_is x1 ⟨k, hk'⟩)

end trip

end Cert.Proof.Loop
-- ==== Proof.Output.lean ====
/-
  WHAT THE KERNEL STORES: the first step, the loop, then one row of scores per batch entry.

  `pieces_eq` names the eight rows the run stores, `row1` / `node1` the state after the first step and `lastRow` the state
  after the loop. `result_at` reads the result array: entry `(b, k)` is `Model.pooled` of the model's state after twelve
  steps of batch entry `b`.
-/
module

public import proofs.«01_k».proof.Proof.Loop

@[expose] public section

noncomputable section

namespace Cert.Proof.Output

open Idealize.ShloMosaic Cert.KernelIdeal Cert.KernelIdeal.Gen Cert.Proof.Layout Cert.Proof.Arrange Cert.Proof.Model
  Cert.Proof.Step Cert.Proof.Scores Cert.Proof.Loop

/-- The two input rows of a gate weight. -/
def lastG (x : Vec Ideal S66x128 .bf16) : Vec Ideal S2x128 .bf16 :=
  extractStridedSlice S2x128 ![64, 0] x ⟨rfl, inb_S66x128_S2x128_64_0⟩

/-- The two input rows of a candidate weight. -/
def lastC (x : Vec Ideal S66x64 .bf16) : Vec Ideal S2x64 .bf16 :=
  extractStridedSlice S2x64 ![64, 0] x ⟨rfl, inb_S66x64_S2x64_64_0⟩

theorem lastG_at (x : Vec Ideal S66x128 .bf16) (d : Fin 2) (o : Fin 128) :
    lastG x (ix2 d o) = x (ix2 ⟨64 + d.val, by omega⟩ o) :=
  Idealize.ShloMosaic.extractStridedSlice_apply _ _ _ _ _ fun a => match a with
    | 0 => rfl
    | 1 => (Nat.zero_add _).symm

theorem lastC_at (x : Vec Ideal S66x64 .bf16) (d : Fin 2) (o : Fin 64) :
    lastC x (ix2 d o) = x (ix2 ⟨64 + d.val, by omega⟩ o) :=
  Idealize.ShloMosaic.extractStridedSlice_apply _ _ _ _ _ fun a => match a with
    | 0 => rfl
    | 1 => (Nat.zero_add _).symm

/-- The state after the first step, one row per batch entry and node. -/
def row1 (x0 : Vec Ideal S512x512 .f32) (x1 : Vec Ideal S12x512x16 .bf16) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) : FVec Ideal S4096x64 .f32 :=
  k0_pay36 (k0_pay28 x5) (k0_pay29 x9) (k0_pay32 (slab0 x1)) (k0_pay33 x0 (slab0 x1))
    (k0_pay34 x0 (slab0 x1)) (k0_pay35 (lastG x2)) (lastG x3) (lastG x4) (lastC x6) (lastC x7) (lastC x8)

/-- The state after the first step, one column per batch entry and unit. -/
def node1 (x0 : Vec Ideal S512x512 .f32) (x1 : Vec Ideal S12x512x16 .bf16) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) : FVec Ideal S512x512 .bf16 :=
  k0_pay37 (k0_pay28 x5) (k0_pay29 x9) (k0_pay32 (slab0 x1)) (k0_pay33 x0 (slab0 x1))
    (k0_pay34 x0 (slab0 x1)) (k0_pay35 (lastG x2)) (lastG x3) (lastG x4) (lastC x6) (lastC x7) (lastC x8)

/-- The parameters as the kernel holds them: the support, the two biases, the three gate weights and the three candidate
    weights. -/
abbrev par (x0 : Vec Ideal S512x512 .f32) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) : Params :=
  params (k0_pay27 x0) (k0_pay28 x5) x2 x3 x4 (k0_pay29 x9) x6 x7 x8

theorem pay27_at (x0 : Vec Ideal S512x512 .f32) : mat (k0_pay27 (F := Ideal) x0) = mat x0 := by
  have h : shapeCast S512x512 x0 shapeCasts_S512x512_S512x512 = x0 := shapeCast_id x0 _
  unfold k0_pay27 mat
  dsimp only
  rw [h]
  rfl

/-- After the first step both arrangements hold the model's state after one step. -/
theorem first_is (x0 : Vec Ideal S512x512 .f32) (x1 : Vec Ideal S12x512x16 .bf16) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) :
    Carried (fun b => state (par x0 x2 x3 x4 x5 x6 x7 x8 x9) (xin x1 b) 1) (node1 x0 x1 x2 x3 x4 x5 x6 x7 x8 x9) (row1 x0 x1 x2 x3 x4 x5 x6 x7 x8 x9) := by
  refine First.first_carried x0 (par x0 x2 x3 x4 x5 x6 x7 x8 x9) (k0_pay28 x5) (k0_pay29 x9) (lastG x2) (lastG x3)
    (lastG x4) (lastC x6) (lastC x7) (lastC x8) (slab0_is x1) (pay27_at x0).symm (fun _ => rfl) (fun _ => rfl) ?_ ?_
  · intro m d o
    match m with
    | 0 => exact lastG_at x2 d o
    | 1 => exact lastG_at x3 d o
    | 2 => exact lastG_at x4 d o
  · intro m d o
    match m with
    | 0 => exact lastC_at x6 d o
    | 1 => exact lastC_at x7 d o
    | 2 => exact lastC_at x8 d o

section out
variable (c : Dev nD) {a0 : Memref sig .tc .vmem S512x512 .f32} (h0 : a0.IsWhole)
  {a1 : Memref sig .tc .vmem S12x512x16 .bf16} (h1 : a1.IsWhole)
  {a2 : Memref sig .tc .vmem S66x128 .bf16} (h2 : a2.IsWhole)
  {a3 : Memref sig .tc .vmem S66x128 .bf16} (h3 : a3.IsWhole)
  {a4 : Memref sig .tc .vmem S66x128 .bf16} (h4 : a4.IsWhole)
  {a5 : Memref sig .tc .vmem S1x128 .f32} (h5 : a5.IsWhole)
  {a6 : Memref sig .tc .vmem S66x64 .bf16} (h6 : a6.IsWhole)
  {a7 : Memref sig .tc .vmem S66x64 .bf16} (h7 : a7.IsWhole)
  {a8 : Memref sig .tc .vmem S66x64 .bf16} (h8 : a8.IsWhole)
  {a9 : Memref sig .tc .vmem S1x64 .f32} (h9 : a9.IsWhole)
  {a10 : Memref sig .tc .vmem S64x5 .f32} (h10 : a10.IsWhole)
  {a11 : Memref sig .tc .vmem S1x5 .f32} (h11 : a11.IsWhole)
  {a12 : Memref sig .tc .vmem S8x5 .f32} (h12 : a12.IsWhole)
  (x0 : Vec Ideal S512x512 .f32) (x1 : Vec Ideal S12x512x16 .bf16) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) (x10 : Vec Ideal S64x5 .f32) (x11 : Vec Ideal S1x5 .f32)

/-- The state after the loop, one row per batch entry and node. -/
def lastRow (x0 : Vec Ideal S512x512 .f32) (x1 : Vec Ideal S12x512x16 .bf16) (x2 : Vec Ideal S66x128 .bf16) (x3 : Vec Ideal S66x128 .bf16) (x4 : Vec Ideal S66x128 .bf16) (x5 : Vec Ideal S1x128 .f32) (x6 : Vec Ideal S66x64 .bf16) (x7 : Vec Ideal S66x64 .bf16) (x8 : Vec Ideal S66x64 .bf16) (x9 : Vec Ideal S1x64 .f32) : FVec Ideal S4096x64 .f32 :=
  (st_k0_t1 (F := Ideal) Variants.none c none a0 h0 a1 h1 a2 h2 a3 h3 a4 h4 a5 h5 a6 h6 a7 h7 a8 h8 a9 h9 a10 h10 a11 h11 a12 h12 (k0_pay27 x0) (k0_pay28 x5) (k0_pay29 x9) (row1 x0 x1 x2 x3 x4 x5 x6 x7 x8 x9) (node1 x0 x1 x2 x3 x4 x5 x6 x7 x8 x9)
    (1#32) (h1.unread x1) (h2.unread x2) (h3.unread x3) (h4.unread x4) (h6.unread x6) (h7.unread x7) (h8.unread x8) (node1 x0 x1 x2 x3 x4 x5 x6 x7 x8 x9, row1 x0 x1 x2 x3 x4 x5 x6 x7 x8 x9) (Scf.trips (1#32) (Scalar.addi 1#32 11#32) 1#32)).2

/-- It is the model's state after twelve steps. -/
theorem lastRow_is (b : Fin 8) (u : Fin 64) (n : Fin 512) :
    lastRow c h0 h1 h2 h3 h4 h5 h6 h7 h8 h9 h10 h11 h12 x0 x1 x2 x3 x4 x5 x6 x7 x8 x9 (ix2 (row b n) u) = state (par x0 x2 x3 x4 x5 x6 x7 x8 x9) (xin x1 b) 12 u n := by
  have ht : Scf.trips (1#32) (Scalar.addi 1#32 11#32) 1#32 = 11 := by decide +kernel
  unfold lastRow
  rw [ht]
  exact (loop_carried c a0 h0 a1 h1 a2 h2 a3 h3 a4 h4 a5 h5 a6 h6 a7 h7 a8 h8 a9 h9 a10 h10 a11 h11 a12 h12 (k0_pay27 x0) (k0_pay28 x5) (k0_pay29 x9) (row1 x0 x1 x2 x3 x4 x5 x6 x7 x8 x9) (node1 x0 x1 x2 x3 x4 x5 x6 x7 x8 x9) (1#32) x1 x2 x3 x4 x6 x7 x8
    Variants.none none (node1 x0 x1 x2 x3 x4 x5 x6 x7 x8 x9, row1 x0 x1 x2 x3 x4 x5 x6 x7 x8 x9) (first_is x0 x1 x2 x3 x4 x5 x6 x7 x8 x9) 11 (Nat.le_refl _)).row b u n

/-- The rows the run stores. -/
theorem pieces_eq : (kernelRun0_A (F := Ideal) c a0 h0 a1 h1 a2 h2 a3 h3 a4 h4 a5 h5 a6 h6 a7 h7 a8 h8 a9 h9 a10 h10 a11 h11 a12 h12 x0 x1 x2 x3 x4 x5 x6 x7 x8 x9 x10 x11).1
      = [⟨Rect.unit (s := S8x5) ![7, 0] ![1, 5] inb_S8x5_S1x5_7_0, stored x10 x11 (lastRow c h0 h1 h2 h3 h4 h5 h6 h7 h8 h9 h10 h11 h12 x0 x1 x2 x3 x4 x5 x6 x7 x8 x9) 7⟩,
         ⟨Rect.unit (s := S8x5) ![6, 0] ![1, 5] inb_S8x5_S1x5_6_0, stored x10 x11 (lastRow c h0 h1 h2 h3 h4 h5 h6 h7 h8 h9 h10 h11 h12 x0 x1 x2 x3 x4 x5 x6 x7 x8 x9) 6⟩,
         ⟨Rect.unit (s := S8x5) ![5, 0] ![1, 5] inb_S8x5_S1x5_5_0, stored x10 x11 (lastRow c h0 h1 h2 h3 h4 h5 h6 h7 h8 h9 h10 h11 h12 x0 x1 x2 x3 x4 x5 x6 x7 x8 x9) 5⟩,
         ⟨Rect.unit (s := S8x5) ![4, 0] ![1, 5] inb_S8x5_S1x5_4_0, stored x10 x11 (lastRow c h0 h1 h2 h3 h4 h5 h6 h7 h8 h9 h10 h11 h12 x0 x1 x2 x3 x4 x5 x6 x7 x8 x9) 4⟩,
         ⟨Rect.unit (s := S8x5) ![3, 0] ![1, 5] inb_S8x5_S1x5_3_0, stored x10 x11 (lastRow c h0 h1 h2 h3 h4 h5 h6 h7 h8 h9 h10 h11 h12 x0 x1 x2 x3 x4 x5 x6 x7 x8 x9) 3⟩,
         ⟨Rect.unit (s := S8x5) ![2, 0] ![1, 5] inb_S8x5_S1x5_2_0, stored x10 x11 (lastRow c h0 h1 h2 h3 h4 h5 h6 h7 h8 h9 h10 h11 h12 x0 x1 x2 x3 x4 x5 x6 x7 x8 x9) 2⟩,
         ⟨Rect.unit (s := S8x5) ![1, 0] ![1, 5] inb_S8x5_S1x5_1_0, stored x10 x11 (lastRow c h0 h1 h2 h3 h4 h5 h6 h7 h8 h9 h10 h11 h12 x0 x1 x2 x3 x4 x5 x6 x7 x8 x9) 1⟩,
         ⟨Rect.unit (s := S8x5) ![0, 0] ![1, 5] inb_S8x5_S1x5_0_0, stored x10 x11 (lastRow c h0 h1 h2 h3 h4 h5 h6 h7 h8 h9 h10 h11 h12 x0 x1 x2 x3 x4 x5 x6 x7 x8 x9) 0⟩] := by
  have e0 := load_whole h0 x0 zero2 inb_S512x512_S512x512_0_0
  have e5 := load_whole h5 x5 zero2 inb_S1x128_S1x128_0_0
  have e9 := load_whole h9 x9 zero2 inb_S1x64_S1x64_0_0
  have e10 : View.readAt (Elt Ideal) a10.view (Rect.unit (s := S64x5) ![0, 0] ![64, 5] inb_S64x5_S64x5_0_0).toLoadRect
      (h10.unread x10) = x10 := load_whole h10 x10 zero2 inb_S64x5_S64x5_0_0
  have e11 : View.readAt (Elt Ideal) a11.view (Rect.unit (s := S1x5) ![0, 0] ![1, 5] inb_S1x5_S1x5_0_0).toLoadRect
      (h11.unread x11) = x11 := load_whole h11 x11 zero2 inb_S1x5_S1x5_0_0
  have e1 : View.readAt (Elt Ideal) a1.view
      (Rect.unit (s := S12x512x16) ![0, 0, 0] S1x512x16.size inb_S12x512x16_S1x512x16_0_0_0).toLoadRect (h1.unread x1)
      = slab0 x1 := load_part h1 x1 _
  have e2 : View.readAt (Elt Ideal) a2.view (Rect.unit (s := S66x128) ![64, 0] S2x128.size
      inb_S66x128_S2x128_64_0).toLoadRect (h2.unread x2) = lastG x2 := load_part h2 x2 _
  have e3 : View.readAt (Elt Ideal) a3.view (Rect.unit (s := S66x128) ![64, 0] S2x128.size
      inb_S66x128_S2x128_64_0).toLoadRect (h3.unread x3) = lastG x3 := load_part h3 x3 _
  have e4 : View.readAt (Elt Ideal) a4.view (Rect.unit (s := S66x128) ![64, 0] S2x128.size
      inb_S66x128_S2x128_64_0).toLoadRect (h4.unread x4) = lastG x4 := load_part h4 x4 _
  have e6 : View.readAt (Elt Ideal) a6.view (Rect.unit (s := S66x64) ![64, 0] S2x64.size
      inb_S66x64_S2x64_64_0).toLoadRect (h6.unread x6) = lastC x6 := load_part h6 x6 _
  have e7 : View.readAt (Elt Ideal) a7.view (Rect.unit (s := S66x64) ![64, 0] S2x64.size
      inb_S66x64_S2x64_64_0).toLoadRect (h7.unread x7) = lastC x7 := load_part h7 x7 _
  have e8 : View.readAt (Elt Ideal) a8.view (Rect.unit (s := S66x64) ![64, 0] S2x64.size
      inb_S66x64_S2x64_64_0).toLoadRect (h8.unread x8) = lastC x8 := load_part h8 x8 _
  unfold kernelRun0_A
  dsimp only
  sl_unfold_words
  rw [e0, e1, e2, e3, e4, e5, e6, e7, e8, e9, e10, e11]
  rfl

/-- The result array the stored rows make up. -/
def rows (H : FVec Ideal S4096x64 .f32) (y : S8x5.Idx) : EReal := stored x10 x11 H (y 0) (ix2 0 (y 1))

/-- Row `b` of it is what is stored there. -/
theorem rows_piece (H : FVec Ideal S4096x64 .f32) (b : Fin 8) (inb : ∀ i, (![b.val, 0] : Fin 2 → ℕ) i + (![1, 5] : Fin 2 → ℕ) i ≤ S8x5.size i)
    (x : (Rect.unit (s := S8x5) ![b.val, 0] ![1, 5] inb).shape.Idx) :
    stored x10 x11 H b x = rows x10 x11 H ((Rect.unit (s := S8x5) ![b.val, 0] ![1, 5] inb).emb x) := by
  have hx : x 0 = (0 : Fin 1) := Subsingleton.elim (α := Fin 1) _ _
  have e0 : (Rect.unit (s := S8x5) ![b.val, 0] ![1, 5] inb).emb x 0 = b := Fin.ext (by
    refine (Rect.emb_apply _ x 0).trans ?_; rw [hx]; rfl)
  have e1 : (Rect.unit (s := S8x5) ![b.val, 0] ![1, 5] inb).emb x 1 = (x 1 : Fin 5) := Fin.ext (by
    refine (Rect.emb_apply _ x 1).trans ?_; show 0 + 1 * (x 1).val = (x 1).val; omega)
  unfold rows
  rw [e0, e1]
  refine congrArg (stored x10 x11 H b) ?_
  funext i
  match i with
  | 0 => exact hx
  | 1 => rfl

/-- Entry `(b, k)` of the kernel's result: the greatest score of class `k` over the nodes of batch entry `b`, after twelve
    steps. -/
theorem result_at (b : Fin 8) (k : Fin 5) :
    out0_A_12 (F := Ideal) c a0 h0 a1 h1 a2 h2 a3 h3 a4 h4 a5 h5 a6 h6 a7 h7 a8 h8 a9 h9 a10 h10 a11 h11 a12 h12 x0 x1 x2 x3 x4 x5 x6 x7 x8 x9 x10 x11 (ix2 b k)
      = pooled (fw x10) (fb x11) (state (par x0 x2 x3 x4 x5 x6 x7 x8 x9) (xin x1 b) 12) k := by
  have hcov := cover0_A_12 (F := Ideal) c a0 h0 a1 h1 a2 h2 a3 h3 a4 h4 a5 h5 a6 h6 a7 h7 a8 h8 a9 h9 a10 h10 a11 h11 a12 h12 x0 x1 x2 x3 x4 x5 x6 x7 x8 x9 x10 x11 (ix2 b k)
  have h1' : out0_A_12 (F := Ideal) c a0 h0 a1 h1 a2 h2 a3 h3 a4 h4 a5 h5 a6 h6 a7 h7 a8 h8 a9 h9 a10 h10 a11 h11 a12 h12 x0 x1 x2 x3 x4 x5 x6 x7 x8 x9 x10 x11 (ix2 b k)
      = rows x10 x11 (lastRow c h0 h1 h2 h3 h4 h5 h6 h7 h8 h9 h10 h11 h12 x0 x1 x2 x3 x4 x5 x6 x7 x8 x9) (ix2 b k) := by
    unfold out0_A_12
    rw [View.read_writes_apply_eq_canon _ _ _ _ hcov]
    refine View.canon_apply_of_pieces (rows x10 x11 (lastRow c h0 h1 h2 h3 h4 h5 h6 h7 h8 h9 h10 h11 h12 x0 x1 x2 x3 x4 x5 x6 x7 x8 x9)) _ ?_ _ hcov
    rw [pieces_eq c h0 h1 h2 h3 h4 h5 h6 h7 h8 h9 h10 h11 h12 x0 x1 x2 x3 x4 x5 x6 x7 x8 x9 x10 x11]
    intro p hp
    simp only [List.mem_cons, List.not_mem_nil, or_false] at hp
    rcases hp with rfl | rfl | rfl | rfl | rfl | rfl | rfl | rfl
    · exact rows_piece x10 x11 _ 7 inb_S8x5_S1x5_7_0
    · exact rows_piece x10 x11 _ 6 inb_S8x5_S1x5_6_0
    · exact rows_piece x10 x11 _ 5 inb_S8x5_S1x5_5_0
    · exact rows_piece x10 x11 _ 4 inb_S8x5_S1x5_4_0
    · exact rows_piece x10 x11 _ 3 inb_S8x5_S1x5_3_0
    · exact rows_piece x10 x11 _ 2 inb_S8x5_S1x5_2_0
    · exact rows_piece x10 x11 _ 1 inb_S8x5_S1x5_1_0
    · exact rows_piece x10 x11 _ 0 inb_S8x5_S1x5_0_0
  rw [h1']
  exact stored_at x10 x11 (lastRow_is c h0 h1 h2 h3 h4 h5 h6 h7 h8 h9 h10 h11 h12 x0 x1 x2 x3 x4 x5 x6 x7 x8 x9) b k

end out

end Cert.Proof.Output
-- ==== Proof.Spec.lean ====
/-
  THE RESULT both programs compute, as one function of the arguments: the unit's parameters and inputs read off the
  argument arrays, and `result`, the class scores pooled over the nodes after twelve steps.

  Weight rows are numbered (feature, Chebyshev term), features first: the two input features, then the 64 state features.
-/
module

public import proofs.«01_k».proof.Proof.Model

@[expose] public section

noncomputable section

namespace Cert.Proof.Spec

open Idealize.ShloMosaic Cert.Proof.Model

variable (X : (⟨4, ![8, 12, 512, 2]⟩ : Shape).Idx → EReal) (S : (⟨3, ![1, 512, 512]⟩ : Shape).Idx → EReal)
  (Wg : (⟨2, ![198, 128]⟩ : Shape).Idx → EReal) (bg : (⟨1, ![128]⟩ : Shape).Idx → EReal)
  (Wc : (⟨2, ![198, 64]⟩ : Shape).Idx → EReal) (bc : (⟨1, ![64]⟩ : Shape).Idx → EReal)
  (fw : (⟨2, ![64, 5]⟩ : Shape).Idx → EReal) (fb : (⟨1, ![5]⟩ : Shape).Idx → EReal)

/-- Row of an input feature and a Chebyshev term in a weight matrix. -/
def inRow (d : Fin 2) (m : Fin 3) : Fin 198 := ⟨d.val * 3 + m.val, by omega⟩

/-- Row of a state feature and a Chebyshev term in a weight matrix. -/
def stRow (u : Fin 64) (m : Fin 3) : Fin 198 := ⟨(2 + u.val) * 3 + m.val, by omega⟩

/-- The unit's parameters, read off the arguments. -/
def par : Params where
  s n k := S (ix3 0 n k)
  bg o := bg (ix1 o)
  gh u m o := Wg (ix2 (stRow u m) o)
  gi d m o := Wg (ix2 (inRow d m) o)
  bc o := bc (ix1 o)
  ch u m o := Wc (ix2 (stRow u m) o)
  ci d m o := Wc (ix2 (inRow d m) o)

/-- The inputs of step `t` of a batch entry (zero past the last step). -/
def inp (b : Fin 8) (t : ℕ) (d : Fin 2) (n : Fin 512) : EReal :=
  if h : t < 12 then X (ix4 b ⟨t, h⟩ n d) else 0

/-- The result: for each batch entry and class the greatest score over the nodes after twelve steps. -/
def result (b : Fin 8) (k : Fin 5) : EReal :=
  pooled (fun u k => fw (ix2 u k)) (fun k => fb (ix1 k)) (state (par S Wg bg Wc bc) (inp X b) 12) k

end Cert.Proof.Spec
-- ==== Proof.Entry.lean ====
/-
  WHAT THE KERNEL IS HANDED: each of its twelve inputs is a whole array, computed from the arguments before the kernel
  starts (the steps' inputs with the batch entries side by side, the weights cut into one matrix per Chebyshev term); and
  the kernel's result over the arguments (`kernel_result`): `Spec.result` of them.
-/
module

public import proofs.«01_k».proof.Proof.Gen.KernelIdeal.Value
public import proofs.«01_k».proof.Proof.Output
public import proofs.«01_k».proof.Proof.Spec
public import Idealize.ShloMosaic.Lib.Claim
public import Idealize.ShloMosaic.Lib.Pipeline.ValueKit.Geometry

@[expose] public section

noncomputable section

namespace Cert.Proof.Entry

open Idealize.ShloMosaic Idealize.ShloMosaic.TcCoe Cert.KernelIdeal Cert.KernelIdeal.Gen Cert.Proof.Layout Cert.Proof.Model
  Cert.Proof.Step

variable (m : (ℓ : Loc nD τ sig) → Buf (Elt Ideal) ℓ) (c : Dev nD)

/-! ### The arguments -/

abbrev arg0 : Vec Ideal S8x12x512x2 .f32 := m ((c : Thread nD τ).loc main_arg0)
abbrev arg2 : Vec Ideal S1x512x512 .f32 := m ((c : Thread nD τ).loc main_arg2)
abbrev arg3 : Vec Ideal S198x128 .f32 := m ((c : Thread nD τ).loc main_arg3)
abbrev arg4 : Vec Ideal S128 .f32 := m ((c : Thread nD τ).loc main_arg4)
abbrev arg5 : Vec Ideal S198x64 .f32 := m ((c : Thread nD τ).loc main_arg5)
abbrev arg6 : Vec Ideal S64 .f32 := m ((c : Thread nD τ).loc main_arg6)
abbrev arg7 : Vec Ideal S64x5 .f32 := m ((c : Thread nD τ).loc main_arg7)
abbrev arg8 : Vec Ideal S5 .f32 := m ((c : Thread nD τ).loc main_arg8)

/-! ### Each input block is the whole array -/

theorem zero_times {r : ℕ} {f : Fin r → ℕ} (h : ∀ a, f a = 0) (g : Fin r → ℕ) : (fun a => f a * g a) = fun _ => 0 :=
  funext fun a => by rw [h a, Nat.zero_mul]

theorem block0 (t : Fin cfg0.N) : (iblk m c 0 t : Vec Ideal S512x512 .f32) = V m c main_v0 :=
  have hz := zero_times ((by decide +kernel : ∀ t : Fin grid0.N, ∀ a, win0_0.index t a = 0) t) main_v0.ty.shape.size
  Memref.read_access_unit_zero (Elt Ideal) main_v0 hz (fun a => by rw [congrFun hz a]; simp) (V m c main_v0)

theorem block1 (t : Fin cfg0.N) : (iblk m c 1 t : Vec Ideal S12x512x16 .bf16) = V m c main_v3 :=
  have hz := zero_times ((by decide +kernel : ∀ t : Fin grid0.N, ∀ a, win0_1.index t a = 0) t) main_v3.ty.shape.size
  Memref.read_access_unit_zero (Elt Ideal) main_v3 hz (fun a => by rw [congrFun hz a]; simp) (V m c main_v3)

theorem block2 (t : Fin cfg0.N) : (iblk m c 2 t : Vec Ideal S66x128 .bf16) = V m c main_v15 :=
  have hz := zero_times ((by decide +kernel : ∀ t : Fin grid0.N, ∀ a, win0_2.index t a = 0) t) main_v15.ty.shape.size
  Memref.read_access_unit_zero (Elt Ideal) main_v15 hz (fun a => by rw [congrFun hz a]; simp) (V m c main_v15)

theorem block3 (t : Fin cfg0.N) : (iblk m c 3 t : Vec Ideal S66x128 .bf16) = V m c main_v17 :=
  have hz := zero_times ((by decide +kernel : ∀ t : Fin grid0.N, ∀ a, win0_3.index t a = 0) t) main_v17.ty.shape.size
  Memref.read_access_unit_zero (Elt Ideal) main_v17 hz (fun a => by rw [congrFun hz a]; simp) (V m c main_v17)

theorem block4 (t : Fin cfg0.N) : (iblk m c 4 t : Vec Ideal S66x128 .bf16) = V m c main_v19 :=
  have hz := zero_times ((by decide +kernel : ∀ t : Fin grid0.N, ∀ a, win0_4.index t a = 0) t) main_v19.ty.shape.size
  Memref.read_access_unit_zero (Elt Ideal) main_v19 hz (fun a => by rw [congrFun hz a]; simp) (V m c main_v19)

theorem block5 (t : Fin cfg0.N) : (iblk m c 5 t : Vec Ideal S1x128 .f32) = V m c main_v20 :=
  have hz := zero_times ((by decide +kernel : ∀ t : Fin grid0.N, ∀ a, win0_5.index t a = 0) t) main_v20.ty.shape.size
  Memref.read_access_unit_zero (Elt Ideal) main_v20 hz (fun a => by rw [congrFun hz a]; simp) (V m c main_v20)

theorem block6 (t : Fin cfg0.N) : (iblk m c 6 t : Vec Ideal S66x64 .bf16) = V m c main_v22 :=
  have hz := zero_times ((by decide +kernel : ∀ t : Fin grid0.N, ∀ a, win0_6.index t a = 0) t) main_v22.ty.shape.size
  Memref.read_access_unit_zero (Elt Ideal) main_v22 hz (fun a => by rw [congrFun hz a]; simp) (V m c main_v22)

theorem block7 (t : Fin cfg0.N) : (iblk m c 7 t : Vec Ideal S66x64 .bf16) = V m c main_v24 :=
  have hz := zero_times ((by decide +kernel : ∀ t : Fin grid0.N, ∀ a, win0_7.index t a = 0) t) main_v24.ty.shape.size
  Memref.read_access_unit_zero (Elt Ideal) main_v24 hz (fun a => by rw [congrFun hz a]; simp) (V m c main_v24)

theorem block8 (t : Fin cfg0.N) : (iblk m c 8 t : Vec Ideal S66x64 .bf16) = V m c main_v26 :=
  have hz := zero_times ((by decide +kernel : ∀ t : Fin grid0.N, ∀ a, win0_8.index t a = 0) t) main_v26.ty.shape.size
  Memref.read_access_unit_zero (Elt Ideal) main_v26 hz (fun a => by rw [congrFun hz a]; simp) (V m c main_v26)

theorem block9 (t : Fin cfg0.N) : (iblk m c 9 t : Vec Ideal S1x64 .f32) = V m c main_v27 :=
  have hz := zero_times ((by decide +kernel : ∀ t : Fin grid0.N, ∀ a, win0_9.index t a = 0) t) main_v27.ty.shape.size
  Memref.read_access_unit_zero (Elt Ideal) main_v27 hz (fun a => by rw [congrFun hz a]; simp) (V m c main_v27)

theorem block10 (t : Fin cfg0.N) : (iblk m c 10 t : Vec Ideal S64x5 .f32) = V m c main_arg7 :=
  have hz := zero_times ((by decide +kernel : ∀ t : Fin grid0.N, ∀ a, win0_10.index t a = 0) t) main_arg7.ty.shape.size
  Memref.read_access_unit_zero (Elt Ideal) main_arg7 hz (fun a => by rw [congrFun hz a]; simp) (V m c main_arg7)

theorem block11 (t : Fin cfg0.N) : (iblk m c 11 t : Vec Ideal S1x5 .f32) = V m c main_v28 :=
  have hz := zero_times ((by decide +kernel : ∀ t : Fin grid0.N, ∀ a, win0_11.index t a = 0) t) main_v28.ty.shape.size
  Memref.read_access_unit_zero (Elt Ideal) main_v28 hz (fun a => by rw [congrFun hz a]; simp) (V m c main_v28)

/-! ### The arrays over the arguments -/

/-- The support matrix. -/
theorem read0 (n k : Fin 512) : (V m c main_v0 : Vec Ideal S512x512 .f32) (ix2 n k) = arg2 m c (ix3 0 n k) := by
  entry_read
  show shapeCast S512x512 (arg2 m c) _ (ix2 n k) = _
  generalize arg2 m c = X
  pointwise

/-- The steps' inputs, the batch entries side by side. -/
theorem read1 (b : Fin 8) (t : Fin 12) (n : Fin 512) (d : Fin 2) :
    (V m c main_v3 : Vec Ideal S12x512x16 .bf16) (ix3 t n ⟨b.val * 2 + d.val, by omega⟩) = arg0 m c (ix4 b t n d) := by
  entry_read
  show truncf (F := Ideal) (φ := .f32) .bf16
    (fun i : S12x512x16.Idx => shapeCast S12x512x16 (transpose S12x512x8x2 [1, 2, 0, 3] (arg0 m c) _) _ i) _ (ix3 t n _) = _
  generalize arg0 m c = X
  pointwise
  have e1 : (⟨(b.val * 2 + d.val) / 2, by omega⟩ : Fin 8) = b := Fin.ext (by show (b.val * 2 + d.val) / 2 = b.val; omega)
  have e2 : (⟨(b.val * 2 + d.val) % 2, by omega⟩ : Fin 2) = d := Fin.ext (by show (b.val * 2 + d.val) % 2 = d.val; omega)
  rw [e1, e2]

/-- A bias or the classes' offsets as a row. -/
theorem read5 (o : Fin 128) : (V m c main_v20 : Vec Ideal S1x128 .f32) (ix2 0 o) = arg4 m c (ix1 o) := by
  entry_read
  show broadcastInDim S1x128 ![1] bcast_S128_S1x128_1 (arg4 m c) _ = _
  generalize arg4 m c = X
  pointwise

theorem read9 (o : Fin 64) : (V m c main_v27 : Vec Ideal S1x64 .f32) (ix2 0 o) = arg6 m c (ix1 o) := by
  entry_read
  show broadcastInDim S1x64 ![1] bcast_S64_S1x64_1 (arg6 m c) _ = _
  generalize arg6 m c = X
  pointwise

theorem read11 (o : Fin 5) : (V m c main_v28 : Vec Ideal S1x5 .f32) (ix2 0 o) = arg8 m c (ix1 o) := by
  entry_read
  show broadcastInDim S1x5 ![1] bcast_S5_S1x5_1 (arg8 m c) _ = _
  generalize arg8 m c = X
  pointwise

theorem read10 : (V m c main_arg7 : Vec Ideal S64x5 .f32) = arg7 m c := V_main_arg7 m c

/-- The gate weights of Chebyshev term `k` as the kernel is handed them: the state rows first, the two input rows last. -/
def gateW (X : Vec Ideal S198x128 .f32) (k : Fin 3) (h : S66x3x128.Slices ![0, k.val, 0] S66x1x128) : Vec Ideal S66x128 .bf16 :=
  shapeCast S66x128
    (extractStridedSlice S66x1x128 ![0, k.val, 0]
      (truncf (F := Ideal) (φ := .f32) .bf16
        (concatenate S66x3x128 0
          [⟨S64x3x128, extractStridedSlice S64x3x128 ![2, 0, 0] (fun i => shapeCast S66x3x128 X shapeCasts_S198x128_S66x3x128 i)
              slices_S66x3x128_S64x3x128_2_0_0⟩,
            ⟨S2x3x128, extractStridedSlice S2x3x128 ![0, 0, 0] (fun i => shapeCast S66x3x128 X shapeCasts_S198x128_S66x3x128 i)
              slices_S66x3x128_S2x3x128_0_0_0⟩]
          concatenates_S64x3x128_S2x3x128_S66x3x128_d0)
        bitsLt_bf16_f32)
      h)
    shapeCasts_S66x1x128_S66x128

theorem gateW_state (X : Vec Ideal S198x128 .f32) (k : Fin 3) (h : S66x3x128.Slices ![0, k.val, 0] S66x1x128) (u : Fin 64)
    (o : Fin 128) : gateW X k h (ix2 ⟨u.val, by omega⟩ o) = X (ix2 (Spec.stRow u k) o) := by
  unfold gateW Spec.stRow
  pointwise

theorem gateW_input (X : Vec Ideal S198x128 .f32) (k : Fin 3) (h : S66x3x128.Slices ![0, k.val, 0] S66x1x128) (d : Fin 2)
    (o : Fin 128) : gateW X k h (ix2 ⟨64 + d.val, by omega⟩ o) = X (ix2 (Spec.inRow d k) o) := by
  unfold gateW Spec.inRow
  pointwise

/-- The candidate weights of Chebyshev term `k` as the kernel is handed them: the state rows first, the two input rows last. -/
def candW (X : Vec Ideal S198x64 .f32) (k : Fin 3) (h : S66x3x64.Slices ![0, k.val, 0] S66x1x64) : Vec Ideal S66x64 .bf16 :=
  shapeCast S66x64
    (extractStridedSlice S66x1x64 ![0, k.val, 0]
      (truncf (F := Ideal) (φ := .f32) .bf16
        (concatenate S66x3x64 0
          [⟨S64x3x64, extractStridedSlice S64x3x64 ![2, 0, 0] (fun i => shapeCast S66x3x64 X shapeCasts_S198x64_S66x3x64 i)
              slices_S66x3x64_S64x3x64_2_0_0⟩,
            ⟨S2x3x64, extractStridedSlice S2x3x64 ![0, 0, 0] (fun i => shapeCast S66x3x64 X shapeCasts_S198x64_S66x3x64 i)
              slices_S66x3x64_S2x3x64_0_0_0⟩]
          concatenates_S64x3x64_S2x3x64_S66x3x64_d0)
        bitsLt_bf16_f32)
      h)
    shapeCasts_S66x1x64_S66x64

theorem candW_state (X : Vec Ideal S198x64 .f32) (k : Fin 3) (h : S66x3x64.Slices ![0, k.val, 0] S66x1x64) (u : Fin 64)
    (o : Fin 64) : candW X k h (ix2 ⟨u.val, by omega⟩ o) = X (ix2 (Spec.stRow u k) o) := by
  unfold candW Spec.stRow
  pointwise

theorem candW_input (X : Vec Ideal S198x64 .f32) (k : Fin 3) (h : S66x3x64.Slices ![0, k.val, 0] S66x1x64) (d : Fin 2)
    (o : Fin 64) : candW X k h (ix2 ⟨64 + d.val, by omega⟩ o) = X (ix2 (Spec.inRow d k) o) := by
  unfold candW Spec.inRow
  pointwise

theorem read2 : (V m c main_v15 : Vec Ideal S66x128 .bf16) = gateW (arg3 m c) 0 slices_S66x3x128_S66x1x128_0_0_0 := by
  entry_read
  rfl

theorem read3 : (V m c main_v17 : Vec Ideal S66x128 .bf16) = gateW (arg3 m c) 1 slices_S66x3x128_S66x1x128_0_1_0 := by
  entry_read
  rfl

theorem read4 : (V m c main_v19 : Vec Ideal S66x128 .bf16) = gateW (arg3 m c) 2 slices_S66x3x128_S66x1x128_0_2_0 := by
  entry_read
  rfl

theorem read6 : (V m c main_v22 : Vec Ideal S66x64 .bf16) = candW (arg5 m c) 0 slices_S66x3x64_S66x1x64_0_0_0 := by
  entry_read
  rfl

theorem read7 : (V m c main_v24 : Vec Ideal S66x64 .bf16) = candW (arg5 m c) 1 slices_S66x3x64_S66x1x64_0_1_0 := by
  entry_read
  rfl

theorem read8 : (V m c main_v26 : Vec Ideal S66x64 .bf16) = candW (arg5 m c) 2 slices_S66x3x64_S66x1x64_0_2_0 := by
  entry_read
  rfl

/-! ### The parameters and inputs over the arguments -/

/-- The parameters the kernel is handed are the arguments'. -/
theorem par_is : Output.par (V m c main_v0) (V m c main_v15) (V m c main_v17) (V m c main_v19) (V m c main_v20)
    (V m c main_v22) (V m c main_v24) (V m c main_v26) (V m c main_v27)
      = Spec.par (arg2 m c) (arg3 m c) (arg4 m c) (arg5 m c) (arg6 m c) := by
  rw [read2, read3, read4, read6, read7, read8]
  unfold Output.par params Spec.par
  rw [Output.pay27_at]
  congr 1
  · funext n k; exact read0 m c n k
  · funext o; exact (congrFun (shapeCast_id _ _) _).trans (read5 m c o)
  · funext u k o
    match k with
    | 0 => exact gateW_state _ _ _ u o
    | 1 => exact gateW_state _ _ _ u o
    | 2 => exact gateW_state _ _ _ u o
  · funext d k o
    match k with
    | 0 => exact gateW_input _ _ _ d o
    | 1 => exact gateW_input _ _ _ d o
    | 2 => exact gateW_input _ _ _ d o
  · funext o; exact (congrFun (shapeCast_id _ _) _).trans (read9 m c o)
  · funext u k o
    match k with
    | 0 => exact candW_state _ _ _ u o
    | 1 => exact candW_state _ _ _ u o
    | 2 => exact candW_state _ _ _ u o
  · funext d k o
    match k with
    | 0 => exact candW_input _ _ _ d o
    | 1 => exact candW_input _ _ _ d o
    | 2 => exact candW_input _ _ _ d o

/-- So are the inputs of each step. -/
theorem inp_is (b : Fin 8) : Loop.xin (V m c main_v3) b = Spec.inp (arg0 m c) b := by
  funext t d n
  unfold Loop.xin Spec.inp
  by_cases h : t < 12
  · rw [dif_pos h, dif_pos h]; exact read1 m c b ⟨t, h⟩ n d
  · rw [dif_neg h, dif_neg h]

/-- The result array after the run: what the one grid point leaves. -/
theorem final : (dats m 0 c).arrAt 12 cfg0.N = outsAt0 m c t0_0 := by
  refine (dats m 0 c).arrAt_eq_of_after_last 12 t0_0 (by decide +kernel) _ fun j => ?_
  rw [after0_12]
  rfl

/-- THE KERNEL'S RESULT at every entry: `Spec.result` of the arguments. -/
theorem kernel_result (b : Fin 8) (k : Fin 5) : ((dats m 0 c).arrAt 12 cfg0.N : Vec Ideal S8x5 .f32) (ix2 b k)
      = Spec.result (arg0 m c) (arg2 m c) (arg3 m c) (arg4 m c) (arg5 m c) (arg6 m c) (arg7 m c) (arg8 m c) b k := by
  rw [final]
  unfold outsAt0
  rw [Output.result_at]
  rw [block0, block1, block2, block3, block4, block5, block6, block7, block8, block9, block10, block11, par_is, inp_is, read10]
  unfold Spec.result
  refine congrArg (fun g => pooled _ g _ k) ?_
  funext k
  exact read11 m c k

end Cert.Proof.Entry
-- ==== Proof.RefConv.lean ====
/-
  THE REFERENCE'S GRAPH CONVOLUTION at an index. The features of all batch entries stand side by side (`feats`: column
  `feature * 8 + batch entry`, the two input features first); `terms` are the three Chebyshev terms of them, one row per
  batch entry and node and one column per (feature, term); `conv` is the product with the weights plus the bias.
-/
module

public import proofs.«01_k».proof.Proof.Gen.ReferenceIdeal.Run
public import proofs.«01_k».proof.Proof.Layout
public import proofs.«01_k».proof.Proof.Spec

@[expose] public section

noncomputable section

namespace Cert.Proof.RefConv

open Idealize.ShloMosaic Cert.ReferenceIdeal Cert.ReferenceIdeal.Gen Cert.Proof.Layout Cert.Proof.Model

/-- The features, the batch entries side by side. -/
def feats (x : Vec Ideal S8x512x2 .f32) (h : Vec Ideal S8x512x64 .f32) : Vec Ideal S512x528 .f32 :=
  shapeCast S512x528 (transpose S512x66x8 [1, 2, 0] (concatenate S8x512x66 2 [⟨S8x512x2, x⟩, ⟨S8x512x64, h⟩]
    concatenates_S8x512x2_S8x512x64_S8x512x66_d2) transposes_S8x512x66_S512x66x8_1_2_0) shapeCasts_S512x66x8_S512x528

/-- Column of a feature and a batch entry. -/
def fcol (f : Fin 66) (b : Fin 8) : Fin 528 := ⟨f.val * 8 + b.val, by omega⟩

theorem feats_in (x : Vec Ideal S8x512x2 .f32) (h : Vec Ideal S8x512x64 .f32) (n : Fin 512) (d : Fin 2) (b : Fin 8) :
    feats x h (ix2 n (fcol ⟨d.val, by omega⟩ b)) = x (ix3 b n d) := by
  unfold feats fcol
  pointwise
  rw [dif_pos (by omega)]
  exact congrArg (fun i : Fin 2 => x (ix3 b n i)) (Fin.ext (by show (d.val * 8 + b.val) / 8 = d.val; omega))

theorem feats_st (x : Vec Ideal S8x512x2 .f32) (h : Vec Ideal S8x512x64 .f32) (n : Fin 512) (u : Fin 64) (b : Fin 8) :
    feats x h (ix2 n (fcol ⟨2 + u.val, by omega⟩ b)) = h (ix3 b n u) := by
  unfold feats fcol
  pointwise
  rw [dif_neg (by omega)]
  exact congrArg (fun i : Fin 64 => h (ix3 b n i)) (Fin.ext (by show ((2 + u.val) * 8 + b.val) / 8 - 2 = u.val; omega))

/-- The support matrix applied to every column. -/
def apply (s : Vec Ideal S512x512 .f32) (x : Vec Ideal S512x528 .f32) : Vec Ideal S512x528 .f32 :=
  Host.dotGeneral (F := Ideal) (φ₁ := .f32) (φ₂ := .f32) dot_S512x512_S512x528_S512x528_1_0_0_1_n_n none s x

theorem apply_at (s : Vec Ideal S512x512 .f32) (x : Vec Ideal S512x528 .f32) (n : Fin 512) (j : Fin 528) :
    apply s x (ix2 n j) = app (fun n k => s (ix2 n k)) (fun k => x (ix2 k j)) n := by
  unfold apply app
  pointwise

/-- The three Chebyshev terms stacked. -/
def stack (s : Vec Ideal S512x512 .f32) (x : Vec Ideal S512x528 .f32) : Vec Ideal S3x512x528 .f32 :=
  concatenate S3x512x528 0
    [⟨S1x512x528, (broadcastInDim S1x512x528 ![1, 2] bcast_S512x528_S1x512x528_1_2 x)⟩,
     ⟨S1x512x528, (broadcastInDim S1x512x528 ![1, 2] bcast_S512x528_S1x512x528_1_2 (apply s x))⟩,
     ⟨S1x512x528, (broadcastInDim S1x512x528 ![1, 2] bcast_S512x528_S1x512x528_1_2
        (subf (F := Ideal) (φ := .f32) (mulf (F := Ideal) (φ := .f32) (broadcastInDim S512x528 ![] bcast_S_S512x528 (constant (F := Ideal) S_ .f32 0x40000000#32))
          (apply s (apply s x))) x))⟩]
    concatenates_S1x512x528_S1x512x528_S1x512x528_S3x512x528_d0

theorem stack_at (s : Vec Ideal S512x512 .f32) (x : Vec Ideal S512x528 .f32) (m : Fin 3) (n : Fin 512) (j : Fin 528) :
    stack s x (ix3 m n j) = hop (fun n k => s (ix2 n k)) m (fun k => x (ix2 k j)) n := by
  have e1 : ∀ n, apply s x (ix2 n j) = app (fun n k => s (ix2 n k)) (fun k => x (ix2 k j)) n := fun n => apply_at s x n j
  have e2 : apply s (apply s x) (ix2 n j)
      = app (fun n k => s (ix2 n k)) (app (fun n k => s (ix2 n k)) (fun k => x (ix2 k j))) n := by
    rw [apply_at]; exact congrArg (fun f => app _ f n) (funext e1)
  unfold stack
  generalize apply s (apply s x) = Z at *
  have e1' := e1 n
  clear e1
  generalize apply s x = Y at *
  match m with
  | 0 => unfold hop; pointwise
  | 1 => unfold hop; rw [← e1']; pointwise
  | 2 => unfold hop; rw [← e2]; pointwise; rfl

/-- The terms, one row per batch entry and node. -/
def terms (s : Vec Ideal S512x512 .f32) (x : Vec Ideal S512x528 .f32) : Vec Ideal S4096x198 .f32 :=
  shapeCast S4096x198 (transpose S8x512x66x3 [3, 1, 2, 0] (shapeCast S3x512x66x8 (stack s x)
    shapeCasts_S3x512x528_S3x512x66x8) transposes_S3x512x66x8_S8x512x66x3_3_1_2_0) shapeCasts_S8x512x66x3_S4096x198

theorem terms_at (s : Vec Ideal S512x512 .f32) (x : Vec Ideal S512x528 .f32) (b : Fin 8) (n : Fin 512) (f : Fin 66)
    (m : Fin 3) : terms s x (ix2 ⟨b.val * 512 + n.val, by omega⟩ ⟨f.val * 3 + m.val, by omega⟩)
      = hop (fun n k => s (ix2 n k)) m (fun k => x (ix2 k (fcol f b))) n := by
  rw [← stack_at]
  unfold terms fcol
  generalize stack s x = Y
  pointwise

/-- The gates' convolution of features `x`, bias added, one row per batch entry and node. -/
def convG (s : Vec Ideal S512x512 .f32) (W : Vec Ideal S198x128 .f32) (bias : Vec Ideal S128 .f32) (x : Vec Ideal S512x528 .f32) :
    Vec Ideal S4096x128 .f32 :=
  addf (F := Ideal) (φ := .f32) (Host.dotGeneral (F := Ideal) (φ₁ := .f32) (φ₂ := .f32) dot_S4096x198_S198x128_S4096x128_1_0_0_1_n_n none
      (terms s x) W)
    (broadcastInDim S4096x128 ![0, 1] bcast_S1x128_S4096x128_0_1 (broadcastInDim S1x128 ![1] bcast_S128_S1x128_1 bias))

theorem convG_at (s : Vec Ideal S512x512 .f32) (W : Vec Ideal S198x128 .f32) (bias : Vec Ideal S128 .f32)
    (x : Vec Ideal S8x512x2 .f32) (h : Vec Ideal S8x512x64 .f32) (b : Fin 8) (n : Fin 512) (o : Fin 128) :
    convG s W bias (feats x h) (ix2 ⟨b.val * 512 + n.val, by omega⟩ o)
      = gconv (fun n k => s (ix2 n k)) (fun o => bias (ix1 o)) (fun u m o => W (ix2 (Spec.stRow u m) o))
          (fun d m o => W (ix2 (Spec.inRow d m) o)) (fun u n => h (ix3 b n u)) (fun d n => x (ix3 b n d)) n o := by
  have ht := terms_at s (feats x h) b n
  have hi := fun k d => feats_in x h k d b
  have hh := fun k u => feats_st x h k u b
  unfold convG
  generalize terms s (feats x h) = T at *
  generalize feats x h = X at *
  rw [← gconv_flat _ _ _ _ _ _ n o (fun j => T (ix2 ⟨b.val * 512 + n.val, by omega⟩ j) * W (ix2 j o))]
  · clear ht hi hh
    pointwise
  · intro d m
    refine congrArg (· * W (ix2 (Spec.inRow d m) o)) ((ht ⟨d.val, by omega⟩ m).trans ?_)
    exact congrArg (fun f => hop _ m f n) (funext fun k => hi k d)
  · intro u m
    refine congrArg (· * W (ix2 (Spec.stRow u m) o)) ((ht ⟨2 + u.val, by omega⟩ m).trans ?_)
    exact congrArg (fun f => hop _ m f n) (funext fun k => hh k u)

/-- The candidate' convolution of features `x`, bias added, one row per batch entry and node. -/
def convC (s : Vec Ideal S512x512 .f32) (W : Vec Ideal S198x64 .f32) (bias : Vec Ideal S64 .f32) (x : Vec Ideal S512x528 .f32) :
    Vec Ideal S4096x64 .f32 :=
  addf (F := Ideal) (φ := .f32) (Host.dotGeneral (F := Ideal) (φ₁ := .f32) (φ₂ := .f32) dot_S4096x198_S198x64_S4096x64_1_0_0_1_n_n none
      (terms s x) W)
    (broadcastInDim S4096x64 ![0, 1] bcast_S1x64_S4096x64_0_1 (broadcastInDim S1x64 ![1] bcast_S64_S1x64_1 bias))

theorem convC_at (s : Vec Ideal S512x512 .f32) (W : Vec Ideal S198x64 .f32) (bias : Vec Ideal S64 .f32)
    (x : Vec Ideal S8x512x2 .f32) (h : Vec Ideal S8x512x64 .f32) (b : Fin 8) (n : Fin 512) (o : Fin 64) :
    convC s W bias (feats x h) (ix2 ⟨b.val * 512 + n.val, by omega⟩ o)
      = gconv (fun n k => s (ix2 n k)) (fun o => bias (ix1 o)) (fun u m o => W (ix2 (Spec.stRow u m) o))
          (fun d m o => W (ix2 (Spec.inRow d m) o)) (fun u n => h (ix3 b n u)) (fun d n => x (ix3 b n d)) n o := by
  have ht := terms_at s (feats x h) b n
  have hi := fun k d => feats_in x h k d b
  have hh := fun k u => feats_st x h k u b
  unfold convC
  generalize terms s (feats x h) = T at *
  generalize feats x h = X at *
  rw [← gconv_flat _ _ _ _ _ _ n o (fun j => T (ix2 ⟨b.val * 512 + n.val, by omega⟩ j) * W (ix2 j o))]
  · clear ht hi hh
    pointwise
  · intro d m
    refine congrArg (· * W (ix2 (Spec.inRow d m) o)) ((ht ⟨d.val, by omega⟩ m).trans ?_)
    exact congrArg (fun f => hop _ m f n) (funext fun k => hi k d)
  · intro u m
    refine congrArg (· * W (ix2 (Spec.stRow u m) o)) ((ht ⟨2 + u.val, by omega⟩ m).trans ?_)
    exact congrArg (fun f => hop _ m f n) (funext fun k => hh k u)

end Cert.Proof.RefConv
-- ==== Proof.RefStep.lean ====
/-
  ONE STEP OF THE REFERENCE at an index: the gates (`gates_at`), the next state (`next_at`: `Model.cell`) and the inputs
  a step reads (`slab_at`).
-/
module

public import proofs.«01_k».proof.Proof.RefConv
public import Idealize.ShloMosaic.Lib.WordCmp

@[expose] public section

noncomputable section

namespace Cert.Proof.RefStep

open Idealize.ShloMosaic Cert.ReferenceIdeal Cert.ReferenceIdeal.Gen Cert.Proof.Layout Cert.Proof.Model Cert.Proof.RefConv

/-- The unit's parameters as the reference holds them. -/
def par (s : Vec Ideal S512x512 .f32) (Wg : Vec Ideal S198x128 .f32) (bg : Vec Ideal S128 .f32) (Wc : Vec Ideal S198x64 .f32)
    (bc : Vec Ideal S64 .f32) : Params where
  s n k := s (ix2 n k)
  bg o := bg (ix1 o)
  gh u m o := Wg (ix2 (Spec.stRow u m) o)
  gi d m o := Wg (ix2 (Spec.inRow d m) o)
  bc o := bc (ix1 o)
  ch u m o := Wc (ix2 (Spec.stRow u m) o)
  ci d m o := Wc (ix2 (Spec.inRow d m) o)

variable (s : Vec Ideal S512x512 .f32) (Wg : Vec Ideal S198x128 .f32) (bg : Vec Ideal S128 .f32)
  (Wc : Vec Ideal S198x64 .f32) (bc : Vec Ideal S64 .f32) (x : Vec Ideal S8x512x2 .f32) (h : Vec Ideal S8x512x64 .f32)

/-- The inputs of a batch entry, by feature and node. -/
def inputs (b : Fin 8) (d : Fin 2) (n : Fin 512) : EReal := x (ix3 b n d)

/-- The state of a batch entry, by feature and node. -/
def entry (b : Fin 8) (u : Fin 64) (n : Fin 512) : EReal := h (ix3 b n u)

/-- The gates of a step. -/
def gates : Vec Ideal S8x512x128 .f32 :=
  shapeCast S8x512x128 (Host.divf (F := Ideal) (φ := .f32)
    (broadcastInDim S4096x128 ![] bcast_S_S4096x128 (constant (F := Ideal) S_ .f32 0x3F800000#32))
    (addf (F := Ideal) (φ := .f32) (broadcastInDim S4096x128 ![] bcast_S_S4096x128 (constant (F := Ideal) S_ .f32 0x3F800000#32))
      (Host.exp (F := Ideal) (φ := .f32) (Host.negf (F := Ideal) (φ := .f32) (convG s Wg bg (feats x h))))))
    shapeCasts_S4096x128_S8x512x128

theorem gates_at (b : Fin 8) (n : Fin 512) (o : Fin 128) :
    gates s Wg bg x h (ix3 b n o) = gate (par s Wg bg Wc bc) (inputs x b) (entry h b) n o := by
  have e := convG_at s Wg bg x h b n o
  unfold gates gate
  show _ = Ideal.logistic (gconv _ _ _ _ (fun u n => h (ix3 b n u)) (fun d n => x (ix3 b n d)) n o)
  rw [show gconv (par s Wg bg Wc bc).s (par s Wg bg Wc bc).bg (par s Wg bg Wc bc).gh (par s Wg bg Wc bc).gi
    (fun u n => h (ix3 b n u)) (fun d n => x (ix3 b n d)) n o = _ from e.symm]
  clear e
  generalize convG s Wg bg (feats x h) = Y
  show _ = Ideal.div 1 (1 + Ideal.exp (-(Y (ix2 ⟨b.val * 512 + n.val, by omega⟩ o))))
  rw [← Ideal.ofBits_one_f32]
  pointwise

/-- The state under the reset gates. -/
def resets (g : Vec Ideal S8x512x128 .f32) : Vec Ideal S8x512x64 .f32 :=
  mulf (F := Ideal) (φ := .f32) (extractStridedSlice S8x512x64 ![0, 0, 0] g slices_S8x512x128_S8x512x64_0_0_0) h

theorem resets_at (g : Vec Ideal S8x512x128 .f32) (b : Fin 8) (n : Fin 512) (u : Fin 64) :
    resets h g (ix3 b n u) = g (ix3 b n ⟨u.val, by omega⟩) * h (ix3 b n u) := by
  unfold resets
  pointwise

/-- The update gates. -/
def updates (g : Vec Ideal S8x512x128 .f32) : Vec Ideal S8x512x64 .f32 :=
  extractStridedSlice S8x512x64 ![0, 0, 64] g slices_S8x512x128_S8x512x64_0_0_64

theorem updates_at (g : Vec Ideal S8x512x128 .f32) (b : Fin 8) (n : Fin 512) (u : Fin 64) :
    updates g (ix3 b n u) = g (ix3 b n ⟨64 + u.val, by omega⟩) := by
  unfold updates
  pointwise

/-- The next state, of the update gates and the candidate's convolution. -/
def mix (g : Vec Ideal S8x512x64 .f32) (y : Vec Ideal S4096x64 .f32) : Vec Ideal S8x512x64 .f32 :=
  addf (F := Ideal) (φ := .f32) (mulf (F := Ideal) (φ := .f32) g h)
    (mulf (F := Ideal) (φ := .f32)
      (subf (F := Ideal) (φ := .f32) (broadcastInDim S8x512x64 ![] bcast_S_S8x512x64 (constant (F := Ideal) S_ .f32 0x3F800000#32)) g)
      (Host.tanh (F := Ideal) (φ := .f32) (shapeCast S8x512x64 y shapeCasts_S4096x64_S8x512x64)))

theorem mix_at (g : Vec Ideal S8x512x64 .f32) (y : Vec Ideal S4096x64 .f32) (b : Fin 8) (n : Fin 512) (u : Fin 64) :
    mix h g y (ix3 b n u) = g (ix3 b n u) * h (ix3 b n u)
      + (1 - g (ix3 b n u)) * Ideal.tanh (y (ix2 ⟨b.val * 512 + n.val, by omega⟩ u)) := by
  rw [← Ideal.ofBits_one_f32]
  unfold mix
  pointwise

/-- The next state. -/
def next : Vec Ideal S8x512x64 .f32 :=
  mix h (updates (gates s Wg bg x h)) (convC s Wc bc (feats x (resets h (gates s Wg bg x h))))

/-- The next state of every batch entry is the model's. -/
theorem next_at (b : Fin 8) (n : Fin 512) (u : Fin 64) :
    next s Wg bg Wc bc x h (ix3 b n u) = cell (par s Wg bg Wc bc) (inputs x b) (entry h b) u n := by
  have eg := gates_at s Wg bg Wc bc x h b
  have er : (fun u n => resets h (gates s Wg bg x h) (ix3 b n u)) = reset (par s Wg bg Wc bc) (inputs x b) (entry h b) := by
    funext u n
    rw [resets_at, eg]
    rfl
  unfold next
  rw [mix_at, updates_at, eg, convC_at, er]
  rfl

/-- What a step reads of the inputs, all steps' inputs one below the other. -/
theorem slab_at (X : Vec Ideal S12x8x512x2 .f32) (start : Fin 4 → Int) (k : Fin 12)
    (hs : ∀ a, start a = ((![k.val, 0, 0, 0] : Fin 4 → ℕ) a : Int)) (b : Fin 8) (n : Fin 512) (d : Fin 2) :
    shapeCast S8x512x2 (Host.dynamicSlice S1x8x512x2 X start sliceFits_S12x8x512x2_S1x8x512x2)
      shapeCasts_S1x8x512x2_S8x512x2 (ix3 b n d) = X (ix4 k b n d) := by
  have hk : S12x8x512x2.Slices ![k.val, 0, 0, 0] S1x8x512x2 := ⟨rfl, fun a => match a with
    | 0 => (by show k.val + 1 ≤ 12; omega)
    | 1 => Nat.le_of_eq (Nat.zero_add 8)
    | 2 => Nat.le_of_eq (Nat.zero_add 512)
    | 3 => Nat.le_of_eq (Nat.zero_add 2)⟩
  rw [WordCmp.dynamicSlice_eq_extract S1x8x512x2 X start sliceFits_S12x8x512x2_S1x8x512x2 ![k.val, 0, 0, 0] hk hs]
  pointwise

end Cert.Proof.RefStep
-- ==== Proof.RefRun.lean ====
/-
  THE REFERENCE'S RUN: what its loop starts from, its state after `k` steps (`loop_state`: the model's), and its result
  at every entry (`reference_result`): `Spec.result` of the arguments.
-/
module

public import proofs.«01_k».proof.Proof.RefStep

@[expose] public section

noncomputable section

namespace Cert.Proof.RefRun

open Idealize.ShloMosaic Idealize.ShloMosaic.TcCoe Idealize.ShloMosaic.StableHlo
open Cert.ReferenceIdeal Cert.ReferenceIdeal.Gen Cert.ReferenceIdeal.Value Cert.Proof.Layout
  Cert.Proof.Model Cert.Proof.RefConv Cert.Proof.RefStep

variable (m : (ℓ : Loc nD τ sig) → Buf (Elt Ideal) ℓ) (c : Dev nD)

/-! ### The arguments -/

abbrev arg0 : Vec Ideal S8x12x512x2 .f32 := m ((c : Thread nD τ).loc main_arg0)
abbrev arg2 : Vec Ideal S1x512x512 .f32 := m ((c : Thread nD τ).loc main_arg2)
abbrev arg3 : Vec Ideal S198x128 .f32 := m ((c : Thread nD τ).loc main_arg3)
abbrev arg4 : Vec Ideal S128 .f32 := m ((c : Thread nD τ).loc main_arg4)
abbrev arg5 : Vec Ideal S198x64 .f32 := m ((c : Thread nD τ).loc main_arg5)
abbrev arg6 : Vec Ideal S64 .f32 := m ((c : Thread nD τ).loc main_arg6)
abbrev arg7 : Vec Ideal S64x5 .f32 := m ((c : Thread nD τ).loc main_arg7)
abbrev arg8 : Vec Ideal S5 .f32 := m ((c : Thread nD τ).loc main_arg8)

/-! ### What the loop starts from -/

/-- The contents at the loop's entry. -/
abbrev start : Valuation τ sig (Elt Ideal) := entryContents preI m c

/-- The inputs, all steps' one below the other. -/
theorem start0 : start m c (Proc.devRef .tc main_v3_0)
    = transpose S12x8x512x2 [1, 0, 2, 3] (arg0 m c) transposes_S8x12x512x2_S12x8x512x2_1_0_2_3 := by
  simp only [start, entryContents, afterL_cons, afterL_nil]
  after_reads_simp
  rfl

/-- The support matrix. -/
theorem start1 : start m c (Proc.devRef .tc main_v3_1) = shapeCast S512x512 (arg2 m c) shapeCasts_S1x512x512_S512x512 := by
  simp only [start, entryContents, afterL_cons, afterL_nil]
  after_reads_simp
  rfl

/-- The weights and biases. -/
theorem start2 : start m c (Proc.devRef .tc main_v3_2) = arg3 m c := by
  simp only [start, entryContents, afterL_cons, afterL_nil]
  after_reads_simp
  rfl

theorem start3 : start m c (Proc.devRef .tc main_v3_3) = arg4 m c := by
  simp only [start, entryContents, afterL_cons, afterL_nil]
  after_reads_simp
  rfl

theorem start4 : start m c (Proc.devRef .tc main_v3_4) = arg5 m c := by
  simp only [start, entryContents, afterL_cons, afterL_nil]
  after_reads_simp
  rfl

theorem start5 : start m c (Proc.devRef .tc main_v3_5) = arg6 m c := by
  simp only [start, entryContents, afterL_cons, afterL_nil]
  after_reads_simp
  rfl

/-- The step counter, zero. -/
theorem start7 : start m c (Proc.devRef .tc main_v3_7) = fun _ => (0#32 : BitVec 32) := by
  simp only [start, entryContents, afterL_cons, afterL_nil]
  after_reads_simp
  rfl

/-- The state, zero. -/
theorem start8 : start m c (Proc.devRef .tc main_v3_8)
    = broadcastInDim S8x512x64 ![] bcast_S_S8x512x64 (constant (F := Ideal) S_ .f32 0x00000000#32) := by
  simp only [start, entryContents, afterL_cons, afterL_nil]
  after_reads_simp
  rfl

/-! ### The loop -/

/-- One trip's state is one step's. -/
theorem step_eq (V : Valuation τ sig (Elt Ideal)) : step_main_v3_8 V
      = next (V (Proc.devRef .tc main_v3_1)) (V (Proc.devRef .tc main_v3_2)) (V (Proc.devRef .tc main_v3_3))
          (V (Proc.devRef .tc main_v3_4)) (V (Proc.devRef .tc main_v3_5)) (res_main_while0b_v25 V)
          (V (Proc.devRef .tc main_v3_8)) := by
  unfold step_main_v3_8 res_main_while0b_v53 res_main_while0b_v58 res_main_while0b_v57 res_main_while0b_v51
    res_main_while0b_v29 res_main_while0b_v28
  rfl

/-- The inputs a trip reads when the step counter is `k`. -/
theorem slab_eq (V : Valuation τ sig (Elt Ideal)) (k : Fin 12)
    (hk : V (Proc.devRef .tc main_v3_7) = fun _ => (BitVec.ofNat 32 k.val : BitVec 32)) (b : Fin 8) (n : Fin 512) (d : Fin 2) :
    (res_main_while0b_v25 V : Vec Ideal S8x512x2 .f32) (ix3 b n d)
      = (V (Proc.devRef .tc main_v3_0) : Vec Ideal S12x8x512x2 .f32) (ix4 k b n d) := by
  unfold res_main_while0b_v25
  refine slab_at (V (Proc.devRef .tc main_v3_0)) _ k ?_ b n d
  have hsel : ∀ k : Fin 12, (Scalar.select (Scalar.cmpi .slt (BitVec.ofNat 32 k.val) 0#32)
      (Scalar.addi (BitVec.ofNat 32 k.val) 12#32) (BitVec.ofNat 32 k.val)).toInt = (k.val : Int) := by decide +kernel
  intro a
  match a with
  | 0 =>
    unfold res_main_while0b_v11
    rw [hk]
    exact hsel k
  | 1 => rfl
  | 2 => rfl
  | 3 => rfl

/-- The carried contents after `k` trips. -/
structure At (k : ℕ) (V : Valuation τ sig (Elt Ideal)) : Prop where
  a0 : V (Proc.devRef .tc main_v3_0) = start m c (Proc.devRef .tc main_v3_0)
  a1 : V (Proc.devRef .tc main_v3_1) = start m c (Proc.devRef .tc main_v3_1)
  a2 : V (Proc.devRef .tc main_v3_2) = start m c (Proc.devRef .tc main_v3_2)
  a3 : V (Proc.devRef .tc main_v3_3) = start m c (Proc.devRef .tc main_v3_3)
  a4 : V (Proc.devRef .tc main_v3_4) = start m c (Proc.devRef .tc main_v3_4)
  a5 : V (Proc.devRef .tc main_v3_5) = start m c (Proc.devRef .tc main_v3_5)
  a7 : V (Proc.devRef .tc main_v3_7) = fun _ => (BitVec.ofNat 32 k : BitVec 32)
  a8 : ∀ b u n, (V (Proc.devRef .tc main_v3_8) : Vec Ideal S8x512x64 .f32) (ix3 b n u)
    = state (Spec.par (arg2 m c) (arg3 m c) (arg4 m c) (arg5 m c) (arg6 m c)) (Spec.inp (arg0 m c) b) k u n

/-- The parameters at the loop's entry are the arguments'. -/
theorem par_is : RefStep.par (start m c (Proc.devRef .tc main_v3_1)) (start m c (Proc.devRef .tc main_v3_2))
    (start m c (Proc.devRef .tc main_v3_3)) (start m c (Proc.devRef .tc main_v3_4)) (start m c (Proc.devRef .tc main_v3_5))
      = Spec.par (arg2 m c) (arg3 m c) (arg4 m c) (arg5 m c) (arg6 m c) := by
  rw [start1, start2, start3, start4, start5]
  unfold RefStep.par Spec.par
  congr 1
  funext n k
  generalize arg2 m c = X
  pointwise

/-- The inputs at the loop's entry are the arguments'. -/
theorem start0_at (t : Fin 12) (b : Fin 8) (n : Fin 512) (d : Fin 2) :
    (start m c (Proc.devRef .tc main_v3_0) : Vec Ideal S12x8x512x2 .f32) (ix4 t b n d) = arg0 m c (ix4 b t n d) := by
  rw [start0]
  generalize arg0 m c = X
  pointwise

/-- After `k` trips the counter is `k` and the state the model's after `k` steps. -/
theorem loop_state : ∀ k, k ≤ 12 → At m c k (STEP^[k] (start m c))
  | 0, _ => by
    refine ⟨rfl, rfl, rfl, rfl, rfl, rfl, start7 m c, fun b u n => ?_⟩
    show (start m c (Proc.devRef .tc main_v3_8) : Vec Ideal S8x512x64 .f32) (ix3 b n u) = (0 : EReal)
    rw [start8, ← Ideal.ofBits_zero_f32]
    pointwise
  | k + 1, hk => by
    have ih := loop_state k (by omega)
    rw [Function.iterate_succ_apply']
    generalize STEP^[k] (start m c) = V at ih
    refine ⟨(STEP_main_v3_0 V).trans ih.a0, (STEP_main_v3_1 V).trans ih.a1, (STEP_main_v3_2 V).trans ih.a2,
      (STEP_main_v3_3 V).trans ih.a3, (STEP_main_v3_4 V).trans ih.a4, (STEP_main_v3_5 V).trans ih.a5,
      (STEP_main_v3_7 V).trans ?_, fun b u n => ?_⟩
    · unfold step_main_v3_7
      rw [ih.a7]
      funext i
      exact (BitVec.ofNat_add k 1).symm
    · rw [STEP_main_v3_8, step_eq, ih.a1, ih.a2, ih.a3, ih.a4, ih.a5, next_at, par_is]
      have hx : inputs (res_main_while0b_v25 V) b = Spec.inp (arg0 m c) b k := by
        funext d n
        unfold inputs Spec.inp
        rw [dif_pos (by omega), slab_eq V ⟨k, by omega⟩ ih.a7, ih.a0, start0_at]
      have hs : entry (V (Proc.devRef .tc main_v3_8)) b
          = state (Spec.par (arg2 m c) (arg3 m c) (arg4 m c) (arg5 m c) (arg6 m c)) (Spec.inp (arg0 m c) b) k := by
        funext u n
        exact ih.a8 b u n
      rw [hx, hs]
      rfl

/-! ### The result -/

/-- The greatest scores of a state. -/
def scores (h : Vec Ideal S8x512x64 .f32) (W : Vec Ideal S64x5 .f32) (B : Vec Ideal S5 .f32) : Vec Ideal S8x5 .f32 :=
  Host.reduce (FloatOps.maximumf (F := Ideal) (φ := .f32)) (addf (F := Ideal) (φ := .f32)
    (Host.dotGeneral (F := Ideal) (φ₁ := .f32) (φ₂ := .f32) dot_S8x512x64_S64x5_S8x512x5_2_0_01_1_n_n none
      (maximumf (F := Ideal) (φ := .f32) h
        (broadcastInDim S8x512x64 ![] bcast_S_S8x512x64 (constant (F := Ideal) S_ .f32 0x00000000#32))) W)
    (broadcastInDim S8x512x5 ![0, 1, 2] bcast_S1x1x5_S8x512x5_0_1_2 (broadcastInDim S1x1x5 ![2] bcast_S5_S1x1x5_2 B)))
    (constant (F := Ideal) S_ .f32 0xFF800000#32) reducesTo_S8x512x5_S8x5_d1 h_S_

theorem scores_at (h : Vec Ideal S8x512x64 .f32) (W : Vec Ideal S64x5 .f32) (B : Vec Ideal S5 .f32) (b : Fin 8) (k : Fin 5) :
    scores h W B (ix2 b k) = pooled (fun u k => W (ix2 u k)) (fun k => B (ix1 k)) (fun u n => h (ix3 b n u)) k := by
  unfold scores pooled logit
  rw [← Ideal.ofBits_zero_f32]
  pointwise

/-- THE REFERENCE'S RESULT at every entry: `Spec.result` of the arguments. -/
theorem reference_result (b : Fin 8) (k : Fin 5) :
    (out_main_v9 (STEP^[12] (start m c)) : Vec Ideal S8x5 .f32) (ix2 b k)
      = Spec.result (arg0 m c) (arg2 m c) (arg3 m c) (arg4 m c) (arg5 m c) (arg6 m c) (arg7 m c) (arg8 m c) b k := by
  have h := (loop_state m c 12 (Nat.le_refl _)).a8
  have e7 := iter_main_arg7 m c 12
  have e8 := iter_main_arg8 m c 12
  generalize STEP^[12] (start m c) = V at *
  unfold out_main_v9
  rw [e7, e8]
  refine (scores_at (V (Proc.devRef .tc main_v3_8)) (arg7 m c) (arg8 m c) b k).trans ?_
  unfold Spec.result
  exact congrArg (fun s => pooled _ _ s k) (funext fun u => funext fun n => h b u n)

end Cert.Proof.RefRun
-- ==== Proof.lean ====
/-
  THE PROOF of `Cert.Claim`: the two kernels' and the reference's runs end with every counter at zero and the arguments
  unchanged, and over the extended reals the kernel's result is the reference's.

  `Entry.kernel_result` and `RefRun.reference_result` say that each result is `Spec.result` of its arguments; the arguments
  agree, so the results do (`results_agree`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Entry
public import proofs.«01_k».proof.Proof.RefRun
public import Idealize.ShloMosaic.Adequacy
public import Idealize.ShloMosaic.Init

@[expose] public section

noncomputable section

namespace Cert.Proof

open Idealize.ShloMosaic Idealize.ShloMosaic.TcCoe Idealize.SL.Sem

/-- The reference's run ends with every counter at zero and the arguments unchanged. -/
theorem reference_quiescent : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- From arguments that agree, the reference's result is the kernel's. -/
theorem results_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : RefRun.arg0 m' c = Entry.arg0 m c) (h2 : RefRun.arg2 m' c = Entry.arg2 m c)
    (h3 : RefRun.arg3 m' c = Entry.arg3 m c) (h4 : RefRun.arg4 m' c = Entry.arg4 m c)
    (h5 : RefRun.arg5 m' c = Entry.arg5 m c) (h6 : RefRun.arg6 m' c = Entry.arg6 m c)
    (h7 : RefRun.arg7 m' c = Entry.arg7 m c) (h8 : RefRun.arg8 m' c = Entry.arg8 m c) :
    (ReferenceIdeal.Value.out_main_v9 (ReferenceIdeal.Value.STEP^[12] (RefRun.start m' c)) : ReferenceIdeal.S8x5.Idx → EReal)
      = (KernelIdeal.Gen.dats m 0 c).arrAt 12 KernelIdeal.cfg0.N := by
  funext y
  have hr := RefRun.reference_result m' c (y 0) (y 1)
  rw [h0, h2, h3, h4, h5, h6, h7, h8] at hr
  have hk := Entry.kernel_result m c (y 0) (y 1)
  have hy : y = ix2 (y 0) (y 1) := by
    funext i
    match i with
    | 0 => rfl
    | 1 => rfl
  rw [hy]
  exact hr.trans hk.symm

/-- Over the extended reals the kernel computes what the reference computes. -/
theorem algebraic : Cert.algebraic_KernelIdeal_ReferenceIdeal := by
  intro m ρ m' ρ' _ hagree
  refine ⟨fun c => (KernelIdeal.Gen.dats m 0 c).arrAt 12 KernelIdeal.cfg0.N, KernelIdeal.Value.run_blocks m ρ, ?_⟩
  refine (θ_run _ _ _).mono (fun _ h c => ⟨(h c).1.trans ?_, (h c).2⟩) (ReferenceIdeal.Value.run m' ρ')
  obtain ⟨h0, _, h2, h3, h4, h5, h6, h7, h8⟩ := hagree c
  exact results_agree m m' c h0 h2 h3 h4 h5 h6 h7 h8

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_quiescent, trivial,
    algebraic⟩

end Cert.Proof

end
